-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "rescale" .f32 0x34810E36#32 ((1 / 4160000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S64x512 : Shape := ⟨2, ![64, 512]⟩
abbrev S64 : Shape := ⟨1, ![64]⟩
abbrev S11 : Shape := ⟨1, ![11]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S11 : S_.BroadcastsInDim S11 (![] : Fin 0 → Fin S11.rank)
  reducesTo_S11_S_d0 : S11.ReducesTo [0] S_

variable [Facts]

def fn_part1 {F : FTy → Type} [FloatOps F] (main_arg4 : FVec F S64x512 .f32) (main_arg5 : FVec F S64 .f32) (main_arg6 : FVec F S11 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S64x512 .f32 := Host.absf main_arg4
  let main_cst_6 : FVec F S_ .f32 := constant S_ .f32 0x7F800000#32
  let main_v20 : FVec F S64x512 .f32 := broadcastInDim S64x512 ![] bcast_S_S64x512 main_cst_6
  let main_v21 : IVec S64x512 1 := cmpf .olt main_v19 main_v20
  let main_c_7 : IVec S_ 1 := constantI S_ 1 1#1
  let main_v22 : IVec S_ 1 := (fun x v => Host.reduce IntOp.andi x v reducesTo_S64x512_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S11 .f32 := Host.absf main_arg6
  let main_cst_10 : FVec F S_ .f32 := constant S_ .f32 0x7F800000#32
  let main_v30 : FVec F S11 .f32 := broadcastInDim S11 ![] bcast_S_S11 main_cst_10
  let main_v31 : IVec S11 1 := cmpf .olt main_v29 main_v30
  let main_c_11 : IVec S_ 1 := constantI S_ 1 1#1
  let main_v32 : IVec S_ 1 := (fun x v => Host.reduce IntOp.andi x v reducesTo_S11_S_d0 h_S_) main_v31 main_c_11
  let main_v33 : IVec S_ 1 := andi main_v28 main_v32
  main_v33

def fn {F : FTy → Type} [FloatOps F] (main_arg0 : FVec F S10000x512 .f32) (main_arg1 : FVec F S10000x10000 .f32) (main_arg2 : FVec F S512x512 .f32) (main_arg3 : FVec F S512 .f32) (main_arg4 : FVec F S64x512 .f32) (main_arg5 : FVec F S64 .f32) (main_arg6 : FVec F S11 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S64x512 : Shape := ⟨2, ![64, 512]⟩
abbrev S64 : Shape := ⟨1, ![64]⟩
abbrev S11 : Shape := ⟨1, ![11]⟩
abbrev S1x512 : Shape := ⟨2, ![1, 512]⟩
abbrev S1x64 : Shape := ⟨2, ![1, 64]⟩
abbrev S10000x64 : Shape := ⟨2, ![10000, 64]⟩
abbrev S25x400x10000 : Shape := ⟨3, ![25, 400, 10000]⟩
abbrev S400x512 : Shape := ⟨2, ![400, 512]⟩
abbrev S400x10000 : Shape := ⟨2, ![400, 10000]⟩
abbrev S400x64 : Shape := ⟨2, ![400, 64]⟩
abbrev S1x400x10000 : Shape := ⟨3, ![1, 400, 10000]⟩
abbrev S1 : Shape := ⟨1, ![1]⟩
abbrev S400 : Shape := ⟨1, ![400]⟩
abbrev S400x1 : Shape := ⟨2, ![400, 1]⟩

abbrev nBuf : Space → Nat
  | .hbm => 14
  | .vmem => 22
  | .smem => 1
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S64x512, .f32⟩
  | .hbm, ⟨5, _⟩ => ⟨S64, .f32⟩
  | .hbm, ⟨6, _⟩ => ⟨S11, .f32⟩
  | .hbm, ⟨7, _⟩ => ⟨S512x512, .bf16⟩
  | .hbm, ⟨8, _⟩ => ⟨S1x512, .f32⟩
  | .hbm, ⟨9, _⟩ => ⟨S64x512, .bf16⟩
  | .hbm, ⟨10, _⟩ => ⟨S1x64, .f32⟩
  | .hbm, ⟨11, _⟩ => ⟨S10000x64, .f32⟩
  | .hbm, ⟨12, _⟩ => ⟨S25x400x10000, .fp8e4m3⟩
  | .hbm, ⟨13, _⟩ => ⟨S10000x64, .f32⟩
  | .local _ .vmem, ⟨0, _⟩ => ⟨S400x512, .f32⟩
  | .local _ .vmem, ⟨1, _⟩ => ⟨S400x512, .f32⟩
  | .local _ .vmem, ⟨2, _⟩ => ⟨S512x512, .bf16⟩
  | .local _ .vmem, ⟨3, _⟩ => ⟨S1x512, .f32⟩
  | .local _ .vmem, ⟨4, _⟩ => ⟨S64x512, .bf16⟩
  | .local _ .vmem, ⟨5, _⟩ => ⟨S1x64, .f32⟩
  | .local _ .vmem, ⟨6, _⟩ => ⟨S400x10000, .f32⟩
  | .local _ .vmem, ⟨7, _⟩ => ⟨S400x10000, .f32⟩
  | .local _ .vmem, ⟨8, _⟩ => ⟨S400x64, .f32⟩
  | .local _ .vmem, ⟨9, _⟩ => ⟨S400x64, .f32⟩
  | .local _ .vmem, ⟨10, _⟩ => ⟨S1x400x10000, .fp8e4m3⟩
  | .local _ .vmem, ⟨11, _⟩ => ⟨S1x400x10000, .fp8e4m3⟩
  | .local _ .vmem, ⟨12, _⟩ => ⟨S1x400x10000, .fp8e4m3⟩
  | .local _ .vmem, ⟨13, _⟩ => ⟨S1x400x10000, .fp8e4m3⟩
  | .local _ .vmem, ⟨14, _⟩ => ⟨S10000x64, .f32⟩
  | .local _ .vmem, ⟨15, _⟩ => ⟨S400x64, .f32⟩
  | .local _ .vmem, ⟨16, _⟩ => ⟨S400x64, .f32⟩
  | .local _ .vmem, ⟨17, _⟩ => ⟨S10000x64, .f32⟩
  | .local _ .vmem, ⟨18, _⟩ => ⟨S10000x64, .f32⟩
  | .local _ .vmem, ⟨19, _⟩ => ⟨S10000x64, .fp8e4m3⟩
  | .local _ .vmem, ⟨20, _⟩ => ⟨S1x64, .f32⟩
  | .local _ .vmem, ⟨21, _⟩ => ⟨S10000x64, .f32⟩
  | .local _ .smem, ⟨0, _⟩ => ⟨S11, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc1_scratch3 : Ref sig .tc := ⟨.vmem, 20, rfl⟩
abbrev cc1_scratch4 : Ref sig .tc := ⟨.vmem, 21, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x400x10000 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![10, 25], ![false, false]⟩

def k1_cond4 (i : grid1.Coords) : BitVec 1 :=
  let arg0 : BitVec 32 := BitVec.ofNat 32 (i 0).val
  let c0_i32_26 : BitVec 32 := 0#32
  let v47 : BitVec 1 := Scalar.cmpi .eq arg0 c0_i32_26
  let v48 : BitVec 32 := Scalar.extui v47
  let c0_i32_27 : BitVec 32 := 0#32
  let v49 : BitVec 1 := Scalar.cmpi .ne v48 c0_i32_27
  v49

def k1_off1 (i : grid1.Coords) : Fin 2 → Nat :=
  let arg1 : BitVec 32 := BitVec.ofNat 32 (i 1).val
  let c400_i32 : BitVec 32 := 400#32
  let v0 : BitVec 32 := Scalar.muli arg1 c400_i32
  let v83 : Index := Scalar.indexCast v0
  let c0_47 : Index := 0#32
  ![v83.toNat, 0]
def k1_cond5 (i : grid1.Coords) : BitVec 1 :=
  let arg0 : BitVec 32 := BitVec.ofNat 32 (i 0).val
  let c0_i32_28 : BitVec 32 := 0#32
  let v50 : BitVec 1 := Scalar.cmpi .sgt arg0 c0_i32_28
  let c2_i32_29 : BitVec 32 := 2#32
  let c0_i32_30 : BitVec 32 := 0#32
  let v51 : BitVec 1 := Scalar.cmpi .eq c2_i32_29 c0_i32_30
  let c1_i32_31 : BitVec 32 := 1#32
  let v52 : BitVec 32 := Scalar.select v51 c1_i32_31 c2_i32_29
  let v53 : BitVec 32 := Scalar.remsi arg0 v52
  let c0_i32_33 : BitVec 32 := 0#32
  let v55 : BitVec 1 := Scalar.cmpi .slt v53 c0_i32_33
  let c0_i32_34 : BitVec 32 := 0#32
  let v56 : BitVec 1 := Scalar.cmpi .slt v52 c0_i32_34
  let v57 : BitVec 1 := Scalar.xori v55 v56
  let c0_i32_32 : BitVec 32 := 0#32
  let v54 : BitVec 1 := Scalar.cmpi .ne v53 c0_i32_32
  let v58 : BitVec 1 := Scalar.andi v57 v54
  let v59 : BitVec 32 := Scalar.addi v53 v52
  let v60 : BitVec 32 := Scalar.select v58 v59 v53
  let c1_i32_35 : BitVec 32 := 1#32
  let v61 : BitVec 1 := Scalar.cmpi .eq v60 c1_i32_35
  let v62 : BitVec 1 := Scalar.andi v50 v61
  let v63 : BitVec 32 := Scalar.extui v62
  let c0_i32_36 : BitVec 32 := 0#32
  let v64 : BitVec 1 := Scalar.cmpi .ne v63 c0_i32_36
  v64

def k1_off2 (i : grid1.Coords) : Fin 2 → Nat :=
  let arg1 : BitVec 32 := BitVec.ofNat 32 (i 1).val
  let c400_i32 : BitVec 32 := 400#32
  let v0 : BitVec 32 := Scalar.muli arg1 c400_i32
  let v83 : Index := Scalar.indexCast v0
  let c0_47 : Index := 0#32
  ![v83.toNat, 0]
def k1_off3 (i : grid1.Coords) : Fin 1 → Nat :=
  let arg0 : BitVec 32 := BitVec.ofNat 32 (i 0).val
  let c1_i32_49 : BitVec 32 := 1#32
  let v89 : BitVec 32 := Scalar.addi arg0 c1_i32_49
  let v90 : Index := Scalar.indexCast v89
  ![v90.toNat]
def k1_cond6 (i : grid1.Coords) : BitVec 1 :=
  let arg0 : BitVec 32 := BitVec.ofNat 32 (i 0).val
  let c0_i32_37 : BitVec 32 := 0#32
  let v65 : BitVec 1 := Scalar.cmpi .sgt arg0 c0_i32_37
  let c2_i32_38 : BitVec 32 := 2#32
  let c0_i32_39 : BitVec 32 := 0#32
  let v66 : BitVec 1 := Scalar.cmpi .eq c2_i32_38 c0_i32_39
  let c1_i32_40 : BitVec 32 := 1#32
  let v67 : BitVec 32 := Scalar.select v66 c1_i32_40 c2_i32_38
  let v68 : BitVec 32 := Scalar.remsi arg0 v67
  let c0_i32_42 : BitVec 32 := 0#32
  let v70 : BitVec 1 := Scalar.cmpi .slt v68 c0_i32_42
  let c0_i32_43 : BitVec 32 := 0#32
  let v71 : BitVec 1 := Scalar.cmpi .slt v67 c0_i32_43
  let v72 : BitVec 1 := Scalar.xori v70 v71
  let c0_i32_41 : BitVec 32 := 0#32
  let v69 : BitVec 1 := Scalar.cmpi .ne v68 c0_i32_41
  let v73 : BitVec 1 := Scalar.andi v72 v69
  let v74 : BitVec 32 := Scalar.addi v68 v67
  let v75 : BitVec 32 := Scalar.select v73 v74 v68
  let c0_i32_44 : BitVec 32 := 0#32
  let v76 : BitVec 1 := Scalar.cmpi .eq v75 c0_i32_44
  let v77 : BitVec 1 := Scalar.andi v65 v76
  let v78 : BitVec 32 := Scalar.extui v77
  let c0_i32_45 : BitVec 32 := 0#32
  let v79 : BitVec 1 := Scalar.cmpi .ne v78 c0_i32_45
  v79

def k1_off4 (i : grid1.Coords) : Fin 2 → Nat :=
  let arg1 : BitVec 32 := BitVec.ofNat 32 (i 1).val
  let c400_i32 : BitVec 32 := 400#32
  let v0 : BitVec 32 := Scalar.muli arg1 c400_i32
  let v83 : Index := Scalar.indexCast v0
  let c0_47 : Index := 0#32
  ![v83.toNat, 0]
def k1_off5 (i : grid1.Coords) : Fin 1 → Nat :=
  let arg0 : BitVec 32 := BitVec.ofNat 32 (i 0).val
  let c1_i32_49 : BitVec 32 := 1#32
  let v89 : BitVec 32 := Scalar.addi arg0 c1_i32_49
  let v90 : Index := Scalar.indexCast v89
  ![v90.toNat]
def k1_cond7 (i : grid1.Coords) : BitVec 1 :=
  let arg0 : BitVec 32 := BitVec.ofNat 32 (i 0).val
  let c9_i32 : BitVec 32 := 9#32
  let v80 : BitVec 1 := Scalar.cmpi .eq arg0 c9_i32
  let v81 : BitVec 32 := Scalar.extui v80
  let c0_i32_46 : BitVec 32 := 0#32
  let v82 : BitVec 1 := Scalar.cmpi .ne v81 c0_i32_46
  v82

def k1_off6 (i : grid1.Coords) : Fin 2 → Nat :=
  let arg1 : BitVec 32 := BitVec.ofNat 32 (i 1).val
  let c400_i32 : BitVec 32 := 400#32
  let v0 : BitVec 32 := Scalar.muli arg1 c400_i32
  let v83 : Index := Scalar.indexCast v0
  let c0_47 : Index := 0#32
  ![v83.toNat, 0]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .eq arg0 c9_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage1_0 : Fin 1 → Memref sig .tc .smem S11 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x400x10000 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S10000x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== KernelIdeal.lean ====
variable {F : FTy → Type} [FloatOps F] [Named F]
def κ : String → Option EReal := fun
  | "rescale" => some ((1 / 4160000 : ℝ) : EReal)
  | _ => none
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S64x512 : Shape := ⟨2, ![64, 512]⟩
abbrev S64 : Shape := ⟨1, ![64]⟩
abbrev S11 : Shape := ⟨1, ![11]⟩
abbrev S1x512 : Shape := ⟨2, ![1, 512]⟩
abbrev S_ : Shape := ⟨0, ![]⟩
abbrev S512x64 : Shape := ⟨2, ![512, 64]⟩
abbrev S10000x64 : Shape := ⟨2, ![10000, 64]⟩
abbrev S1x64 : Shape := ⟨2, ![1, 64]⟩
abbrev S1 : Shape := ⟨1, ![1]⟩
abbrev S10000 : Shape := ⟨1, ![10000]⟩
abbrev S10000x1 : Shape := ⟨2, ![10000, 1]⟩

abbrev nBuf : Space → Nat
  | .hbm => 99
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S64x512, .f32⟩
  | .hbm, ⟨5, _⟩ => ⟨S64, .f32⟩
  | .hbm, ⟨6, _⟩ => ⟨S11, .f32⟩
  | .hbm, ⟨7, _⟩ => ⟨S512x512, .f32⟩
  | .hbm, ⟨8, _⟩ => ⟨S10000x512, .f32⟩
  | .hbm, ⟨9, _⟩ => ⟨S1x512, .f32⟩
  | .hbm, ⟨10, _⟩ => ⟨S10000x512, .f32⟩
  | .hbm, ⟨11, _⟩ => ⟨S10000x512, .f32⟩
  | .hbm, ⟨12, _⟩ => ⟨S_, .f32⟩
  | .hbm, ⟨13, _⟩ => ⟨S10000x512, .f32⟩
  | .hbm, ⟨14, _⟩ => ⟨S10000x512, .f32⟩
  | .hbm, ⟨15, _⟩ => ⟨S512x64, .f32⟩
  | .hbm, ⟨16, _⟩ => ⟨S10000x64, .f32⟩
  | .hbm, ⟨17, _⟩ => ⟨S1x64, .f32⟩
  | .hbm, ⟨18, _⟩ => ⟨S10000x64, .f32⟩
  | .hbm, ⟨19, _⟩ => ⟨S10000x64, .f32⟩
  | .hbm, ⟨20, _⟩ => ⟨S1, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S10000x64, .f32⟩
  | .hbm, ⟨25, _⟩ => ⟨S1, .f32⟩
  | .hbm, ⟨26, _⟩ => ⟨S_, .f32⟩
  | .hbm, ⟨27, _⟩ => ⟨S10000x64, .f32⟩
  | .hbm, ⟨28, _⟩ => ⟨S10000x64, .f32⟩
  | .hbm, ⟨29, _⟩ => ⟨S10000x64, .f32⟩
  | .hbm, ⟨30, _⟩ => ⟨S10000x64, .f32⟩
  | .hbm, ⟨31, _⟩ => ⟨S1, .f32⟩
  | .hbm, ⟨32, _⟩ => ⟨S_, .f32⟩
  | .hbm, ⟨33, _⟩ => ⟨S10000x64, .f32⟩
  | .hbm, ⟨34, _⟩ => ⟨S10000x64, .f32⟩
  | .hbm, ⟨35, _⟩ => ⟨S10000x64, .f32⟩
  | .hbm, ⟨36, _⟩ => ⟨S10000x64, .f32⟩
  | .hbm, ⟨37, _⟩ => ⟨S1, .f32⟩
  | .hbm, ⟨38, _⟩ => ⟨S_, .f32⟩
  | .hbm, ⟨39, _⟩ => ⟨S10000x64, .f32⟩
  | .hbm, ⟨40, _⟩ => ⟨S10000x64, .f32⟩
  | .hbm, ⟨41, _⟩ => ⟨S10000x64, .f32⟩
  | .hbm, ⟨42, _⟩ => ⟨S10000x64, .f32⟩
  | .hbm, ⟨43, _⟩ => ⟨S1, .f32⟩
  | .hbm, ⟨44, _⟩ => ⟨S_, .f32⟩
  | .hbm, ⟨45, _⟩ => ⟨S10000x64, .f32⟩
  | .hbm, ⟨46, _⟩ => ⟨S10000x64, .f32⟩
  | .hbm, ⟨47, _⟩ => ⟨S10000x64, .f32⟩
  | .hbm, ⟨48, _⟩ => ⟨S10000x64, .f32⟩
  | .hbm, ⟨49, _⟩ => ⟨S1, .f32⟩
  | .hbm, ⟨50, _⟩ => ⟨S_, .f32⟩
  | .hbm, ⟨51, _⟩ => ⟨S10000x64, .f32⟩
  | .hbm, ⟨52, _⟩ => ⟨S10000x64, .f32⟩
  | .hbm, ⟨53, _⟩ => ⟨S10000x64, .f32⟩
  | .hbm, ⟨54, _⟩ => ⟨S10000x64, .f32⟩
  | .hbm, ⟨55, _⟩ => ⟨S1, .f32⟩
  | .hbm, ⟨56, _⟩ => ⟨S_, .f32⟩
  | .hbm, ⟨57, _⟩ => ⟨S10000x64, .f32⟩
  | .hbm, ⟨58, _⟩ => ⟨S10000x64, .f32⟩
  | .hbm, ⟨59, _⟩ => ⟨S10000x64, .f32⟩
  | .hbm, ⟨60, _⟩ => ⟨S10000x64, .f32⟩
  | .hbm, ⟨61, _⟩ => ⟨S1, .f32⟩
  | .hbm, ⟨62, _⟩ => ⟨S_, .f32⟩
  | .hbm, ⟨63, _⟩ => ⟨S10000x64, .f32⟩
  | .hbm, ⟨64, _⟩ => ⟨S10000x64, .f32⟩
  | .hbm, ⟨65, _⟩ => ⟨S10000x64, .f32⟩
  | .hbm, ⟨66, _⟩ => ⟨S10000x64, .f32⟩
  | .hbm, ⟨67, _⟩ => ⟨S1, .f32⟩
  | .hbm, ⟨68, _⟩ => ⟨S_, .f32⟩
  | .hbm, ⟨69, _⟩ => ⟨S10000x64, .f32⟩
  | .hbm, ⟨70, _⟩ => ⟨S10000x64, .f32⟩
  | .hbm, ⟨71, _⟩ => ⟨S10000x64, .f32⟩
  | .hbm, ⟨72, _⟩ => ⟨S10000x64, .f32⟩
  | .hbm, ⟨73, _⟩ => ⟨S1, .f32⟩
  | .hbm, ⟨74, _⟩ => ⟨S_, .f32⟩
  | .hbm, ⟨75, _⟩ => ⟨S10000x64, .f32⟩
  | .hbm, ⟨76, _⟩ => ⟨S10000x64, .f32⟩
  | .hbm, ⟨77, _⟩ => ⟨S10000x64, .f32⟩
  | .hbm, ⟨78, _⟩ => ⟨S10000x64, .f32⟩
  | .hbm, ⟨79, _⟩ => ⟨S1, .f32⟩
  | .hbm, ⟨80, _⟩ => ⟨S_, .f32⟩
  | .hbm, ⟨81, _⟩ => ⟨S10000x64, .f32⟩
  | .hbm, ⟨82, _⟩ => ⟨S10000x64, .f32⟩
  | .hbm, ⟨83, _⟩ => ⟨S10000x64, .f32⟩
  | .hbm, ⟨84, _⟩ => ⟨S_, .f32⟩
  | .hbm, ⟨85, _⟩ => ⟨S10000, .f32⟩
  | .hbm, ⟨86, _⟩ => ⟨S_, .f32⟩
  | .hbm, ⟨87, _⟩ => ⟨S10000, .f32⟩
  | .hbm, ⟨88, _⟩ => ⟨S10000, .f32⟩
  | .hbm, ⟨89, _⟩ => ⟨S10000x1, .f32⟩
  | .hbm, ⟨90, _⟩ => ⟨S10000x64, .f32⟩
  | .hbm, ⟨91, _⟩ => ⟨S10000x64, .f32⟩
  | .hbm, ⟨92, _⟩ => ⟨S10000x64, .f32⟩
  | .hbm, ⟨93, _⟩ => ⟨S_, .f32⟩
  | .hbm, ⟨94, _⟩ => ⟨S10000, .f32⟩
  | .hbm, ⟨95, _⟩ => ⟨S10000x1, .f32⟩
  | .hbm, ⟨96, _⟩ => ⟨S10000x1, .f32⟩
  | .hbm, ⟨97, _⟩ => ⟨S10000x64, .f32⟩
  | .hbm, ⟨98, _⟩ => ⟨S10000x64, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_call1_cst : Ref sig .tc := ⟨.hbm, 84, rfl⟩
abbrev main_call1_v0 : Ref sig .tc := ⟨.hbm, 85, rfl⟩
abbrev main_call1_cst_0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_cst_1 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Proof.Common.lean ====
module

public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.RegionsLoop
public import Idealize.ShloMosaic.Lib.Pipeline.FrameBody
public import Idealize.ShloMosaic.Lib.VecWindow
public import Idealize.ShloMosaic.Lib.WritesUnit
public import Idealize.ShloMosaic.Lib.Tactic

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra of the run: the pipelines' rounds beside the counters. -/
abbrev UU : Type := UR sig nD τ × Counters

local notation "𝕄" => MT nD τ sig Unit (Elt F) ℕ UU ℕ

/-- The contents of the buffer under a memref on core `c`. -/
abbrev Bf (F : FTy → Type) (c : Dev nD) {sp : Space} {S : Shape} {e : EltTy} (M : Memref sig .tc sp S e) : Type :=
  Buf (Elt F) (M.view.loc (c : Thread nD τ))

/-- The buffer under a memref, held whole on core `c` at contents `f`. -/
abbrev pt (c : Dev nD) {sp : Space} {S : Shape} {e : EltTy} (M : Memref sig .tc sp S e) (f : Bf F c M) : sProp 𝕄 :=
  M.view.loc (c : Thread nD τ) ↦{fullShare} f

/-- Owning a memref that is a whole buffer is holding that buffer at contents which read as stated. -/
theorem owns_pt (c : Dev nD) {sp : Space} {S : Shape} {e : EltTy} (M : Memref sig .tc sp S e) (h : M.IsWhole)
    (X : S.Idx → Elt F e) :
    (owns (c : Thread nD τ) M fullShare X : sProp 𝕄)
      = iprop(∃ f : Bf F c M, ⌜M.view.read (Elt F) f = X⌝ ∗ pt c M f) := by
  unfold owns
  rw [Memref.IsWhole.set_eq_univ h]

end Cert.Proof

end
-- ==== Proof.Region0.lean ====
module

public import proofs.«01_k».proof.Proof.Common

@[expose] public section

set_option maxRecDepth 16384

noncomputable section

namespace Cert.Proof.Region0

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The first kernel's body, run once: it leaves its inputs as they were, the projected block in its first result and
    the quantised adjacency block in its second. -/
theorem prepRun (c : Dev nD) (i : grid0.Coords) (M1 : Memref sig .tc .vmem S400x512 .f32) (h1 : M1.IsWhole) (M2 : Memref sig .tc .vmem S512x512 .bf16) (h2 : M2.IsWhole)
    (M3 : Memref sig .tc .vmem S1x512 .f32) (h3 : M3.IsWhole) (M4 : Memref sig .tc .vmem S64x512 .bf16) (h4 : M4.IsWhole)
    (M5 : Memref sig .tc .vmem S1x64 .f32) (h5 : M5.IsWhole) (M6 : Memref sig .tc .vmem S400x10000 .f32) (h6 : M6.IsWhole)
    (M7 : Memref sig .tc .vmem S400x64 .f32) (h7 : M7.IsWhole) (M8 : Memref sig .tc .vmem S1x400x10000 .fp8e4m3) (h8 : M8.IsWhole)
    (f1 : Bf F c M1) (f2 : Bf F c M2) (f3 : Bf F c M3) (f4 : Bf F c M4) (f5 : Bf F c M5) (f6 : Bf F c M6)
    (f7 : Bf F c M7) (f8 : Bf F c M8) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗
      (iprop(pt c M1 f1 ∗ pt c M2 f2 ∗ pt c M3 f3 ∗ pt c M4 f4 ∗ pt c M5 f5 ∗ pt c M6 f6
        ∗ (∃ g : Bf F c M7, ⌜M7.view.read (Elt F) g = k0_pay1 (M1.view.read (Elt F) f1) (M2.view.read (Elt F) f2)
            (M3.view.read (Elt F) f3) (M4.view.read (Elt F) f4) (M5.view.read (Elt F) f5)⌝ ∗ pt c M7 g)
        ∗ (∃ g : Bf F c M8, ⌜M8.view.read (Elt F) g = k0_pay2 (M6.view.read (Elt F) f6)⌝ ∗ pt c M8 g)) -∗ Q ⟨⟩))
          ⊢ wp frame (wpE (defs₀ (F := F)) Variants.none c none) E (cc0__prep_body i M1 h1 M2 h2 M3 h3 M4 h4 M5 h5 M6 h6 M7 h7 M8 h8) Q := by
  rw [cc0__prep_body_eq_skeleton]
  iintro ⟨H1, H2, H3, H4, H5, H6, H7, H8, Hk⟩
  sl_exec!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; (· iexact H7); ipureintro
    unfold prepRun.sl.H7_1
    exact (View.read_writes_full _ _ _ _ _).trans (by
      rw [View.readAt_full M1.view f1, View.readAt_full M2.view f2, View.readAt_full M3.view f3,
        View.readAt_full M4.view f4, View.readAt_full M5.view f5])
  · iexists _; isplitr; swap; (· iexact H8); ipureintro
    unfold prepRun.sl.H8_1
    exact (View.read_writes_full _ _ _ _ _).trans (by rw [View.readAt_full M6.view f6])

/-! ## The proof data -/

variable (V : (c : Dev nD) → (b : Ref sig .tc) → Buf (Elt F) ((c : Thread nD τ).loc b))

/-- Window `w`'s array at the entry valuation. -/
abbrev A (c : Dev nD) (w : Fin cfg0.W) : Buf (Elt F) ((cfg0.win w).arr.view.loc (c.tc : Thread nD τ)) :=
  V c (Pipeline.arrRef spec0 w)

/-- Window `w`'s block at point `t`, read from its array at the entry valuation. -/
abbrev blk (c : Dev nD) (w : Fin cfg0.W) (t : Fin cfg0.N) : ((cfg0.win w).xblock (cfg0.grid.coords t)).Idx → Elt F (cfg0.win w).elt :=
  ((cfg0.win w).blk t).view.read (Elt F) (A V c w)

/-- The block of the projected features computed at point `t`. -/
def zBlk (c : Dev nD) (t : Fin cfg0.N) : S400x64.Idx → Elt F .f32 :=
  k0_pay1 (blk V c 0 t) (blk V c 1 t) (blk V c 2 t) (blk V c 3 t) (blk V c 4 t)

/-- The block of the quantised adjacency computed at point `t`. -/
def aqBlk (c : Dev nD) (t : Fin cfg0.N) : S1x400x10000.Idx → Elt F .fp8e4m3 := k0_pay2 (blk V c 5 t)

/-- The invariant: the scoped buffers this pipeline does not stage, held at something. -/
abbrev Φc (c : Dev nD) : sProp 𝕄 := Pipeline.scopedRest (Ix := Unit) (Name := ℕ) (U := UU) (Lvl := ℕ) (Val := Elt F) spec0 c

/-- The proof data of the first region: inputs are left as fetched, the two results hold the computed blocks. -/
def dat (c : Dev nD) : Dat τ (Elt F) Unit ℕ UU ℕ cfg0 c where
  A w := A V c w
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => zBlk V c t
    | ⟨7, _⟩ => aqBlk V c t
  Φ _ := Φc c
  q _ := fullShare
  owed _ := 0

/-- An input window finds the block of its array, fetched at this point or before. -/
theorem before_in (c : Dev nD) (t : Fin cfg0.N) :
    (∀ d, (dat V c).before 0 t d = blk V c 0 t) ∧ (∀ d, (dat V c).before 1 t d = blk V c 1 t)
    ∧ (∀ d, (dat V c).before 2 t d = blk V c 2 t) ∧ (∀ d, (dat V c).before 3 t d = blk V c 3 t)
    ∧ (∀ d, (dat V c).before 4 t d = blk V c 4 t) ∧ (∀ d, (dat V c).before 5 t d = blk V c 5 t) :=
  ⟨fun d => (dat V c).before_in_eq_fetched 0 rfl (fun _ => rfl) (fun _ _ _ => rfl) (fun _ => rfl) t d,
   fun d => (dat V c).before_in_eq_fetched 1 rfl (fun _ => rfl) (fun _ _ _ => rfl) (fun _ => rfl) t d,
   fun d => (dat V c).before_in_eq_fetched 2 rfl (fun _ => rfl) (fun _ _ _ => rfl) (fun _ => rfl) t d,
   fun d => (dat V c).before_in_eq_fetched 3 rfl (fun _ => rfl) (fun _ _ _ => rfl) (fun _ => rfl) t d,
   fun d => (dat V c).before_in_eq_fetched 4 rfl (fun _ => rfl) (fun _ _ _ => rfl) (fun _ => rfl) t d,
   fun d => (dat V c).before_in_eq_fetched 5 rfl (fun _ => rfl) (fun _ _ _ => rfl) (fun _ => rfl) t d⟩

/-- The body meets the pipeline's obligation at every point. -/
theorem body_obligation (c : Dev nD) : BodyObligation (dat V c) (defs₀ (F := F)) Variants.none () Set.univ := fun t => by
  rw [bigSep_W0, bigSep_W0]
  dsimp only
  obtain ⟨b0, b1, b2, b3, b4, b5⟩ := before_in V c t
  simp only [b0, b1, b2, b3, b4, b5, owns_pt c (stage0_0 _) (hstage0_0 _), owns_pt c (stage0_1 _) (hstage0_1 _),
    owns_pt c (stage0_2 _) (hstage0_2 _), owns_pt c (stage0_3 _) (hstage0_3 _), owns_pt c (stage0_4 _) (hstage0_4 _),
    owns_pt c (stage0_5 _) (hstage0_5 _), owns_pt c (stage0_6 _) (hstage0_6 _), owns_pt c (stage0_7 _) (hstage0_7 _)]
  rw [show (dat V c).Φ t.castSucc = Φc c from rfl, show (dat V c).Φ t.succ = Φc c from rfl,
    show (dat V c).owesAt () t.succ = (dat V c).owesAt () t.castSucc from rfl]
  iintro ⟨HΦ, Howes, ⟨%d0, %f0, %e0, H0⟩, ⟨%d1, %f1, %e1, H1⟩, ⟨%d2, %f2, %e2, H2⟩, ⟨%d3, %f3, %e3, H3⟩,
    ⟨%d4, %f4, %e4, H4⟩, ⟨%d5, %f5, %e5, H5⟩, ⟨%d6, %f6, -, H6⟩, ⟨%d7, %f7, -, H7⟩⟩
  iapply (prepRun c (grid0.coords t) _ (hstage0_0 _) _ (hstage0_1 _) _ (hstage0_2 _) _ (hstage0_3 _) _ (hstage0_4 _)
    _ (hstage0_5 _) _ (hstage0_6 _) _ (hstage0_7 _) f0 f1 f2 f3 f4 f5 f6 f7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, ⟨%g6, %e6, H6⟩, ⟨%g7, %e7, H7⟩⟩
  rw [e0, e1, e2, e3, e4] at e6
  rw [e5] at e7
  isplitl [HΦ]; · iexact HΦ
  isplitl [Howes]; · iexact Howes
  isplitl [H0]; · iexists f0; isplitr; swap; (· iexact H0); ipureintro; dsimp only [dat]; exact e0
  isplitl [H1]; · iexists f1; isplitr; swap; (· iexact H1); ipureintro; dsimp only [dat]; exact e1
  isplitl [H2]; · iexists f2; isplitr; swap; (· iexact H2); ipureintro; dsimp only [dat]; exact e2
  isplitl [H3]; · iexists f3; isplitr; swap; (· iexact H3); ipureintro; dsimp only [dat]; exact e3
  isplitl [H4]; · iexists f4; isplitr; swap; (· iexact H4); ipureintro; dsimp only [dat]; exact e4
  isplitl [H5]; · iexists f5; isplitr; swap; (· iexact H5); ipureintro; dsimp only [dat]; exact e5
  isplitl [H6]; · iexists g6; isplitr; swap; (· iexact H6); ipureintro; dsimp only [dat]; exact e6
  iexists g7; isplitr; swap; (· iexact H7); ipureintro; dsimp only [dat]; exact e7

end Cert.Proof.Region0

end
-- ==== Proof.Conds.lean ====
module

public import proofs.«01_k».proof.Proof.Common

@[expose] public section

set_option maxRecDepth 16384

namespace Cert.Proof.Region1

open Cert.KernelIdeal Cert.KernelIdeal.Gen
open Idealize.ShloMosaic

/-- The pass number of a point of the second grid. -/
abbrev kOf (i : grid1.Coords) : ℕ := (i 0).val
/-- The row block of a point of the second grid. -/
abbrev bOf (i : grid1.Coords) : ℕ := (i 1).val

/-- A point belongs to one of ten passes. -/
theorem k_lt (i : grid1.Coords) : kOf i < 10 := (i 0).isLt
/-- A point belongs to one of 25 blocks. -/
theorem b_lt (i : grid1.Coords) : bOf i < 25 := (i 1).isLt

/-- A statement about both coordinates, decided at every pair, holds at every point. -/
theorem coords_all (P : ℕ → ℕ → Prop) (h : ∀ (k : Fin 10) (b : Fin 25), P k.val b.val) (i : grid1.Coords) : P (kOf i) (bOf i) :=
  h ⟨kOf i, k_lt i⟩ ⟨bOf i, b_lt i⟩

/-- The pass number's remainder by two, as the body computes it. -/
abbrev par (a : BitVec 32) : BitVec 32 :=
  let v10 : BitVec 32 := Scalar.select (Scalar.cmpi .eq 2#32 0#32) 1#32 2#32
  let v11 : BitVec 32 := Scalar.remsi a v10
  let v12 : BitVec 1 := Scalar.cmpi .ne v11 0#32
  let v13 : BitVec 1 := Scalar.cmpi .slt v11 0#32
  let v14 : BitVec 1 := Scalar.cmpi .slt v10 0#32
  let v16 : BitVec 1 := Scalar.andi (Scalar.xori v13 v14) v12
  Scalar.select v16 (Scalar.addi v11 v10) v11

/-- Whether the body quantises the projected features, as it computes that. -/
abbrev cond1 (k b : ℕ) : BitVec 1 :=
  Scalar.cmpi .ne (Scalar.extui (Scalar.andi (Scalar.cmpi .eq (BitVec.ofNat 32 b) 0#32) (Scalar.cmpi .eq (BitVec.ofNat 32 k) 0#32)) : BitVec 32) 0#32
/-- Whether the body quantises the first kept array, as it computes that. -/
abbrev cond2 (k b : ℕ) : BitVec 1 :=
  Scalar.cmpi .ne (Scalar.extui (Scalar.andi (Scalar.andi (Scalar.cmpi .eq (BitVec.ofNat 32 b) 0#32) (Scalar.cmpi .sgt (BitVec.ofNat 32 k) 0#32))
    (Scalar.cmpi .eq (par (BitVec.ofNat 32 k)) 1#32)) : BitVec 32) 0#32
/-- Whether the body quantises the second kept array, as it computes that. -/
abbrev cond3 (k b : ℕ) : BitVec 1 :=
  Scalar.cmpi .ne (Scalar.extui (Scalar.andi (Scalar.andi (Scalar.cmpi .eq (BitVec.ofNat 32 b) 0#32) (Scalar.cmpi .sgt (BitVec.ofNat 32 k) 0#32))
    (Scalar.cmpi .eq (par (BitVec.ofNat 32 k)) 0#32)) : BitVec 32) 0#32

/-- When each of the three quantisation branches is taken. -/
theorem conds123 (i : grid1.Coords) :
    (cond1 (kOf i) (bOf i) = 1#1 ↔ bOf i = 0 ∧ kOf i = 0) ∧ (cond2 (kOf i) (bOf i) = 1#1 ↔ bOf i = 0 ∧ kOf i % 2 = 1)
      ∧ (cond3 (kOf i) (bOf i) = 1#1 ↔ bOf i = 0 ∧ 0 < kOf i ∧ kOf i % 2 = 0) :=
  coords_all (fun k b => (cond1 k b = 1#1 ↔ b = 0 ∧ k = 0) ∧ (cond2 k b = 1#1 ↔ b = 0 ∧ k % 2 = 1)
      ∧ (cond3 k b = 1#1 ↔ b = 0 ∧ 0 < k ∧ k % 2 = 0)) (by decide +kernel) i

/-- When each of the four update branches is taken. -/
theorem conds4567 (i : grid1.Coords) :
    (k1_cond4 i = 1#1 ↔ kOf i = 0) ∧ (k1_cond5 i = 1#1 ↔ kOf i % 2 = 1) ∧ (k1_cond6 i = 1#1 ↔ 0 < kOf i ∧ kOf i % 2 = 0)
      ∧ (k1_cond7 i = 1#1 ↔ kOf i = 9) := by
  have key : ∀ i : grid1.Coords, (k1_cond4 i = 1#1 ↔ kOf i = 0) ∧ (k1_cond5 i = 1#1 ↔ kOf i % 2 = 1)
      ∧ (k1_cond6 i = 1#1 ↔ 0 < kOf i ∧ kOf i % 2 = 0) ∧ (k1_cond7 i = 1#1 ↔ kOf i = 9) := by decide +kernel
  exact key i

/-- The offsets of the body's row accesses and of its coefficient loads. -/
theorem offs (i : grid1.Coords) :
    k1_off1 i = ![400 * bOf i, 0] ∧ k1_off2 i = ![400 * bOf i, 0] ∧ k1_off4 i = ![400 * bOf i, 0] ∧ k1_off6 i = ![400 * bOf i, 0]
      ∧ k1_off3 i = ![kOf i + 1] ∧ k1_off5 i = ![kOf i + 1] := by
  have key : ∀ i : grid1.Coords, k1_off1 i = ![400 * bOf i, 0] ∧ k1_off2 i = ![400 * bOf i, 0] ∧ k1_off4 i = ![400 * bOf i, 0]
      ∧ k1_off6 i = ![400 * bOf i, 0] ∧ k1_off3 i = ![kOf i + 1] ∧ k1_off5 i = ![kOf i + 1] := by decide +kernel
  exact key i

end Cert.Proof.Region1
-- ==== Proof.Reads.lean ====
module

public import proofs.«01_k».proof.Proof.Conds
public import Idealize.ShloMosaic.Lib.Pipeline.Value
public import Idealize.ShloMosaic.Lib.Tactic

@[expose] public section

set_option maxRecDepth 16384

noncomputable section

namespace Cert.Proof.Region1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## What one point of the second kernel computes -/

/-- The rows of block `b`. -/
def rowsOf {α : Type} (y : S10000x64.Idx → α) (b : ℕ) (hb : b < 25) : S400x64.Idx → α :=
  VecWindow.window y ![400 * b, 0] S400x64.size
    (Fin.forall_fin_two.mpr ⟨show 400 * b + 400 ≤ 10000 by omega, show 0 + 64 ≤ 64 from Nat.le_refl _⟩)

/-- An array with the rows of block `b` replaced. -/
def putRows {α : Type} (y : S10000x64.Idx → α) (b : ℕ) (w : S400x64.Idx → α) : S10000x64.Idx → α :=
  VecWindow.put y ![400 * b, 0] S400x64.size w

/-- The rows just replaced are the replacement. -/
theorem rowsOf_putRows {α : Type} (y : S10000x64.Idx → α) (b : ℕ) (hb : b < 25) (w : S400x64.Idx → α) :
    rowsOf (putRows y b w) b hb = w := VecWindow.window_put_same _ _ _ _ _

/-- Coefficient `n`. -/
def coef (g : S11.Idx → Elt F .f32) (n : ℕ) (h : n < 11) : Elt F .f32 := g fun a => ⟨n, by have : a = 0 := Subsingleton.elim _ _; subst this; exact h⟩

/-- The quantised features the point multiplies by: computed afresh at the first block of a pass, else as found. -/
def newQ (k b : ℕ) (z s0 s1 : Vec F S10000x64 .f32) (sq : Vec F S10000x64 .fp8e4m3) : Vec F S10000x64 .fp8e4m3 :=
  if b = 0 then k1_pay6 (if k = 0 then z else if k % 2 = 1 then s0 else s1) else sq

/-- The factors the product is rescaled by: computed afresh at the first block of a pass, else as found. -/
def newF (k b : ℕ) (z s0 s1 : Vec F S10000x64 .f32) (fc : Vec F S1x64 .f32) : Vec F S1x64 .f32 :=
  if b = 0 then k1_pay7 (if k = 0 then z else if k % 2 = 1 then s0 else s1) else fc

/-- The rows of the running sum the point leaves. -/
def newY (k b : ℕ) (hk : k < 10) (hb : b < 25) (g : S11.Idx → Elt F .f32) (aq : Vec F S1x400x10000 .fp8e4m3) (q : Vec F S10000x64 .fp8e4m3) (fc : Vec F S1x64 .f32)
    (z y : Vec F S10000x64 .f32) : Vec F S400x64 .f32 :=
  if k = 0 then k1_pay16 aq q fc (coef g 0 (by omega)) (rowsOf z b hb) (coef g 1 (by omega))
  else k1_pay2 (k1_pay14 aq q fc) (rowsOf y b hb) (coef g (k + 1) (by omega))

/-! ## Reading a buffer that a branch may have stored to -/

/-- A buffer stored whole in a branch reads the stored value if the branch was taken, else what it read before. -/
theorem read_join {κ : Kind} {sp : Space} {s : Shape} {e : EltTy} {Val : EltTy → Type} (v : View sig κ sp s e) (f : v.ty.Contents Val) (P : Prop) [Decidable P] {off : Fin s.rank → ℕ}
    (inb : ∀ a, off a + s.size a ≤ s.size a) (w : P → (Rect.unit off s.size inb).shape.Idx → Val e) :
    v.read Val (if h : P then v.writes Val f [⟨Rect.unit off s.size inb, w h⟩] else f) = if h : P then w h else v.read Val f := by
  by_cases h : P
  · rw [dif_pos h, dif_pos h, View.read_writes_full]
  · rw [dif_neg h, dif_neg h]

/-- A buffer stored in part in a branch reads, if the branch was taken, what it read before with that part replaced. -/
theorem read_join_put {κ : Kind} {sp : Space} {s : Shape} {e : EltTy} {Val : EltTy → Type} (v : View sig κ sp s e) (f : v.ty.Contents Val) (P : Prop) [Decidable P] {off off' size : Fin s.rank → ℕ}
    (inb : P → ∀ a, off a + size a ≤ s.size a) (w : (h : P) → (Rect.unit off size (inb h)).shape.Idx → Val e) (ho : off = off') :
    v.read Val (if h : P then v.writes Val f [⟨Rect.unit off size (inb h), w h⟩] else f)
      = if h : P then VecWindow.put (v.read Val f) off' size (w h) else v.read Val f := by
  by_cases h : P
  · rw [dif_pos h, dif_pos h, View.read_writes_cons_put v f (inb h) (w h) [] ho, View.writes_nil]
  · rw [dif_neg h, dif_neg h]

/-- A stored row block replaces those rows. -/
theorem read_putRows {κ : Kind} {sp : Space} {e : EltTy} {Val : EltTy → Type} (v : View sig κ sp S10000x64 e) (f : v.ty.Contents Val) {off : Fin S10000x64.rank → ℕ} (b : ℕ)
    (inb : ∀ a, off a + S400x64.size a ≤ S10000x64.size a) (w : S400x64.Idx → Val e) (ho : off = ![400 * b, 0]) :
    v.read Val (v.writes Val f [⟨Rect.unit off S400x64.size inb, w⟩]) = putRows (v.read Val f) b w := by
  rw [View.read_writes_cons_put v f inb w [] ho, View.writes_nil]
  rfl

/-- A loaded row block is those rows. -/
theorem readAt_rowsOf {κ : Kind} {sp : Space} {e : EltTy} {Val : EltTy → Type} (v : View sig κ sp S10000x64 e) (f : v.ty.Contents Val) {off : Fin S10000x64.rank → ℕ} (b : ℕ) (hb : b < 25)
    (inb : ∀ a, off a + S400x64.size a ≤ S10000x64.size a) (ho : off = ![400 * b, 0]) :
    v.readAt Val (Rect.unit off S400x64.size inb).toLoadRect f = rowsOf (v.read Val f) b hb :=
  View.readAt_unit v f inb ho _

/-- A loaded coefficient is that coefficient. -/
theorem readAt_coef {κ : Kind} {sp : Space} (v : View sig κ sp S11 .f32) (f : v.ty.Contents (Elt F)) {off : Fin S11.rank → ℕ} (n : ℕ) (hn : n < 11)
    (inb : ∀ a, off a + (![1] : Fin S11.rank → ℕ) a ≤ S11.size a) (ho : off = ![n]) (j : (Rect.unit (s := S11) off ![1] inb).shape.Idx) :
    v.readAt (Elt F) (Rect.unit off ![1] inb).toLoadRect f j = coef (v.read (Elt F) f) n hn := by
  subst ho
  refine congrArg (v.read (Elt F) f) (funext fun a => Fin.ext ?_)
  have ha : a = 0 := Subsingleton.elim _ _
  subst ha
  have hj : (j 0).val < 1 := (j 0).isLt
  show n + 1 * (j 0).val = n
  omega

/-- Quantising the first kept array is quantising as the projected features are. -/
theorem pay9_eq (v : Vec F S10000x64 .f32) : k1_pay9 v = k1_pay6 v := by
  unfold k1_pay9 k1_pay8 k1_pay6 k1_pay5 k1_pay4
  simp only [Idealize.ShloMosaic.shapeCast_self]

/-- Quantising the second kept array is quantising as the projected features are. -/
theorem pay12_eq (v : Vec F S10000x64 .f32) : k1_pay12 v = k1_pay6 v := by
  unfold k1_pay12 k1_pay11 k1_pay6 k1_pay5 k1_pay4
  simp only [Idealize.ShloMosaic.shapeCast_self]

/-- The rescaling factors of the first kept array are computed as those of the projected features. -/
theorem pay10_eq (v : Vec F S10000x64 .f32) : k1_pay10 v = k1_pay7 v := by
  unfold k1_pay10 k1_pay8 k1_pay7 k1_pay5 k1_pay4
  simp only [Idealize.ShloMosaic.shapeCast_self]

/-- The rescaling factors of the second kept array are computed as those of the projected features. -/
theorem pay13_eq (v : Vec F S10000x64 .f32) : k1_pay13 v = k1_pay7 v := by
  unfold k1_pay13 k1_pay11 k1_pay7 k1_pay5 k1_pay4
  simp only [Idealize.ShloMosaic.shapeCast_self]

/-- The product stored to the first kept array is the product. -/
theorem pay15_eq (a : Vec F S1x400x10000 .fp8e4m3) (q : Vec F S10000x64 .fp8e4m3) (w : Vec F S1x64 .f32) : k1_pay15 a q w = k1_pay14 a q w := by
  unfold k1_pay15
  exact Idealize.ShloMosaic.shapeCast_self _ _

/-- The product stored to the second kept array is the product. -/
theorem pay17_eq (a : Vec F S1x400x10000 .fp8e4m3) (q : Vec F S10000x64 .fp8e4m3) (w : Vec F S1x64 .f32) : k1_pay17 a q w = k1_pay14 a q w := by
  unfold k1_pay17
  exact Idealize.ShloMosaic.shapeCast_self _ _

/-- What is stored to the first kept array on a later even pass is what it is computed from. -/
theorem pay1_eq (v : FVec F S400x64 .f32) : k1_pay1 v = v := by
  unfold k1_pay1
  exact Idealize.ShloMosaic.shapeCast_self _ _

/-- The running sum is updated the same way on odd and even passes. -/
theorem pay18_eq (a : Vec F S1x400x10000 .fp8e4m3) (q : Vec F S10000x64 .fp8e4m3) (w : Vec F S1x64 .f32) (v : Vec F S400x64 .f32) (x : Elt F .f32) :
    k1_pay18 a q w v x = k1_pay2 (k1_pay14 a q w) v x := by
  unfold k1_pay18 k1_pay2
  rfl

/-- The three quantisation branches, in the order the body meets them, leave the features quantised for the pass. -/
theorem newQ_eq (k b : ℕ) (z s0 s1 : Vec F S10000x64 .f32) (sq : Vec F S10000x64 .fp8e4m3) (p1 p2 p3 : Prop) [Decidable p1] [Decidable p2] [Decidable p3]
    (h1 : p1 ↔ b = 0 ∧ k = 0) (h2 : p2 ↔ b = 0 ∧ k % 2 = 1) (h3 : p3 ↔ b = 0 ∧ 0 < k ∧ k % 2 = 0) :
    (if _h : p3 then k1_pay12 s1 else if _h : p2 then k1_pay9 s0 else if _h : p1 then k1_pay6 z else sq) = newQ k b z s0 s1 sq := by
  simp only [pay9_eq, pay12_eq]
  unfold newQ
  simp only [h1, h2, h3]
  split_ifs <;> first | omega | rfl

/-- The same for the rescaling factors. -/
theorem newF_eq (k b : ℕ) (z s0 s1 : Vec F S10000x64 .f32) (fc : Vec F S1x64 .f32) (p1 p2 p3 : Prop) [Decidable p1] [Decidable p2] [Decidable p3]
    (h1 : p1 ↔ b = 0 ∧ k = 0) (h2 : p2 ↔ b = 0 ∧ k % 2 = 1) (h3 : p3 ↔ b = 0 ∧ 0 < k ∧ k % 2 = 0) :
    (if _h : p3 then k1_pay13 s1 else if _h : p2 then k1_pay10 s0 else if _h : p1 then k1_pay7 z else fc) = newF k b z s0 s1 fc := by
  simp only [pay10_eq, pay13_eq]
  unfold newF
  simp only [h1, h2, h3]
  split_ifs <;> first | omega | rfl

end Cert.Proof.Region1

end
-- ==== Proof.Region1.lean ====
module

public import proofs.«01_k».proof.Proof.Reads
public import Idealize.ShloMosaic.Lib.Tactic

@[expose] public section

set_option maxRecDepth 16384

noncomputable section

namespace Cert.Proof.Region1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section Runs

variable (c : Dev nD) (i : grid1.Coords) (M2 : Memref sig .tc .smem S11 .f32) (h2 : M2.IsWhole) (M3 : Memref sig .tc .vmem S1x400x10000 .fp8e4m3) (h3 : M3.IsWhole)
  (M4 : Memref sig .tc .vmem S10000x64 .f32) (h4 : M4.IsWhole) (M5 : Memref sig .tc .vmem S400x64 .f32) (h5 : M5.IsWhole)
  (M6 : Memref sig .tc .vmem S10000x64 .f32) (h6 : M6.IsWhole) (M7 : Memref sig .tc .vmem S10000x64 .f32) (h7 : M7.IsWhole)
  (M8 : Memref sig .tc .vmem S10000x64 .fp8e4m3) (h8 : M8.IsWhole) (M9 : Memref sig .tc .vmem S1x64 .f32) (h9 : M9.IsWhole)
  (M10 : Memref sig .tc .vmem S10000x64 .f32) (h10 : M10.IsWhole)

set_option maxHeartbeats 400000 in
/-- The second kernel's body, run once, at any point. -/
theorem bodyRun (f2 : Bf F c M2) (f3 : Bf F c M3) (f4 : Bf F c M4) (f5 : Bf F c M5) (f6 : Bf F c M6) (f7 : Bf F c M7) (f8 : Bf F c M8) (f9 : Bf F c M9)
    (f10 : Bf F c M10) (g : S11.Idx → Elt F .f32) (aq : Vec F S1x400x10000 .fp8e4m3) (z s0 s1 y : Vec F S10000x64 .f32) (o : Vec F S400x64 .f32)
    (sq : Vec F S10000x64 .fp8e4m3) (fc : Vec F S1x64 .f32)
    (e2 : M2.view.read (Elt F) f2 = g) (e3 : M3.view.read (Elt F) f3 = aq) (e4 : M4.view.read (Elt F) f4 = z) (e5 : M5.view.read (Elt F) f5 = o)
    (e6 : M6.view.read (Elt F) f6 = s0) (e7 : M7.view.read (Elt F) f7 = s1) (e8 : M8.view.read (Elt F) f8 = sq) (e9 : M9.view.read (Elt F) f9 = fc)
    (e10 : M10.view.read (Elt F) f10 = y) (E : Set ℕ) (Q : PUnit → sProp 𝕄) :
    iprop(pt c M2 f2 ∗ pt c M3 f3 ∗ pt c M4 f4 ∗ pt c M5 f5 ∗ pt c M6 f6 ∗ pt c M7 f7 ∗ pt c M8 f8 ∗ pt c M9 f9 ∗ pt c M10 f10 ∗
      (iprop(pt c M2 f2 ∗ pt c M3 f3 ∗ pt c M4 f4
        ∗ (∃ x : Bf F c M5, ⌜M5.view.read (Elt F) x = if kOf i = 9 then
            k1_pay3 (newY (kOf i) (bOf i) (k_lt i) (b_lt i) g aq (newQ (kOf i) (bOf i) z s0 s1 sq) (newF (kOf i) (bOf i) z s0 s1 fc) z y) else o⌝ ∗ pt c M5 x)
        ∗ (∃ x : Bf F c M6, ⌜M6.view.read (Elt F) x = if kOf i % 2 = 0 then putRows s0 (bOf i)
            (k1_pay14 aq (newQ (kOf i) (bOf i) z s0 s1 sq) (newF (kOf i) (bOf i) z s0 s1 fc)) else s0⌝ ∗ pt c M6 x)
        ∗ (∃ x : Bf F c M7, ⌜M7.view.read (Elt F) x = if kOf i % 2 = 1 then putRows s1 (bOf i)
            (k1_pay14 aq (newQ (kOf i) (bOf i) z s0 s1 sq) (newF (kOf i) (bOf i) z s0 s1 fc)) else s1⌝ ∗ pt c M7 x)
        ∗ (∃ x : Bf F c M8, ⌜M8.view.read (Elt F) x = newQ (kOf i) (bOf i) z s0 s1 sq⌝ ∗ pt c M8 x)
        ∗ (∃ x : Bf F c M9, ⌜M9.view.read (Elt F) x = newF (kOf i) (bOf i) z s0 s1 fc⌝ ∗ pt c M9 x)
        ∗ (∃ x : Bf F c M10, ⌜M10.view.read (Elt F) x = putRows y (bOf i)
            (newY (kOf i) (bOf i) (k_lt i) (b_lt i) g aq (newQ (kOf i) (bOf i) z s0 s1 sq) (newF (kOf i) (bOf i) z s0 s1 fc) z y)⌝ ∗ pt c M10 x)) -∗ Q ⟨⟩))
      ⊢ wp frame (wpE (defs₀ (F := F)) Variants.none c none) E
        (cc1__prop_body i M2 h2 M3 h3 M4 h4 M5 h5 M6 h6 M7 h7 M8 h8 M9 h9 M10 h10) Q := by
  obtain ⟨hc1, hc2, hc3⟩ := conds123 i
  obtain ⟨hc4, hc5, hc6, hc7⟩ := conds4567 i
  obtain ⟨o1, o2, o4, o6, o3, o5⟩ := offs i
  rw [cc1__prop_body_eq_skeleton]
  unfold cc1__prop_body_skel
  simp only [k1_part1_eq_skeleton, k1_part2_eq_skeleton]
  unfold k1_part1_skel k1_part2_skel
  iintro ⟨H2, H3, H4, H5, H6, H7, H8, H9, H10, Hk⟩
  sl_exec!
  sl_step
  have q8 : bodyRun.sl.v42 c i M4 M6 M7 M8 f4 f6 f7 f8 = newQ (kOf i) (bOf i) z s0 s1 sq := by
    unfold bodyRun.sl.v42
    rw [View.readAt_full M8.view, read_join, read_join, read_join, View.readAt_full, View.readAt_full, View.readAt_full, e4, e6, e7, e8]
    exact newQ_eq _ _ _ _ _ _ _ _ _ hc1 hc2 hc3
  have q9 : bodyRun.sl.v44 c i M4 M6 M7 M9 f4 f6 f7 f9 = newF (kOf i) (bOf i) z s0 s1 fc := by
    unfold bodyRun.sl.v44
    rw [View.readAt_full M9.view, read_join, read_join, read_join, View.readAt_full, View.readAt_full, View.readAt_full, e4, e6, e7, e9]
    exact newF_eq _ _ _ _ _ _ _ _ _ hc1 hc2 hc3
  have q2 : View.readAt (Elt F) M3.view (Rect.unit ![0, 0, 0] S1x400x10000.size inb_S1x400x10000_S1x400x10000_0_0_0).toLoadRect f3 = aq := by
    rw [View.readAt_full, e3]
  have qr : bodyRun.sl.r c M2 f2 = coef g 0 (by omega) := by
    unfold bodyRun.sl.r
    exact (readAt_coef M2.view f2 0 (by omega) _ rfl _).trans (by rw [e2])
  have qr1 : bodyRun.sl.r_1 c M2 f2 = coef g 1 (by omega) := by
    unfold bodyRun.sl.r_1
    exact (readAt_coef M2.view f2 1 (by omega) _ rfl _).trans (by rw [e2])
  have qr3 : bodyRun.sl.r_3 c i M3 M4 M6 M7 M8 M9 f3 f4 f6 f7 f8 f9
      = k1_pay14 aq (newQ (kOf i) (bOf i) z s0 s1 sq) (newF (kOf i) (bOf i) z s0 s1 fc) := by
    unfold bodyRun.sl.r_3
    rw [q2, q8, q9]
  have hk := k_lt i
  have p4 : kOf i = 0 → k1_cond4 i = 1#1 := hc4.mpr
  have n4 : kOf i ≠ 0 → ¬ k1_cond4 i = 1#1 := fun h e => h (hc4.mp e)
  have p5 : kOf i % 2 = 1 → k1_cond5 i = 1#1 := hc5.mpr
  have n5 : kOf i % 2 = 0 → ¬ k1_cond5 i = 1#1 := fun h e => by have := hc5.mp e; omega
  have p6 : 0 < kOf i ∧ kOf i % 2 = 0 → k1_cond6 i = 1#1 := hc6.mpr
  have n6 : ¬ (0 < kOf i ∧ kOf i % 2 = 0) → ¬ k1_cond6 i = 1#1 := fun h e => h (hc6.mp e)
  have qv88 : ∀ hc, bodyRun.sl.v88 c i M2 M3 M4 M6 M7 M8 M9 M10 f2 f3 f4 f6 f7 f8 f9 f10 hc = rowsOf y (bOf i) (b_lt i) := fun hc => by
    unfold bodyRun.sl.v88
    refine (readAt_rowsOf M10.view _ (bOf i) (b_lt i) _ o2).trans ?_
    rw [dif_neg (n4 (by have := hc5.mp hc; omega)), e10]
  have qv88' : ∀ hc, bodyRun.sl.v88_1 c i M2 M3 M4 M6 M7 M8 M9 M10 f2 f3 f4 f6 f7 f8 f9 f10 hc = rowsOf y (bOf i) (b_lt i) := fun hc => by
    unfold bodyRun.sl.v88_1
    refine (readAt_rowsOf M10.view _ (bOf i) (b_lt i) _ o4).trans ?_
    rw [dif_neg (n5 (hc6.mp hc).2), dif_neg (n4 (by have := hc6.mp hc; omega)), e10]
  have qr2 : ∀ hc, bodyRun.sl.r_2 c i M2 f2 hc = coef g (kOf i + 1) (by omega) := fun hc => by
    unfold bodyRun.sl.r_2
    exact (readAt_coef M2.view f2 (kOf i + 1) (by omega) _ o3 _).trans (by rw [e2])
  have qr4 : ∀ hc, bodyRun.sl.r_4 c i M2 f2 hc = coef g (kOf i + 1) (by omega) := fun hc => by
    unfold bodyRun.sl.r_4
    exact (readAt_coef M2.view f2 (kOf i + 1) (by omega) _ o5 _).trans (by rw [e2])
  have qz : ∀ hc : k1_cond4 i = 1#1, View.readAt (Elt F) M4.view (Rect.unit (s := S10000x64) (k1_off1 i) S400x64.size (k1_off1_inb i hc)).toLoadRect f4 = rowsOf z (bOf i) (b_lt i) :=
    fun hc => (readAt_rowsOf M4.view f4 (bOf i) (b_lt i) _ o1).trans (by rw [e4])
  have qv84 : ∀ hc, bodyRun.sl.v84 c i M2 M3 M4 M6 M7 M8 M9 M10 f2 f3 f4 f6 f7 f8 f9 f10 hc
      = newY (kOf i) (bOf i) (k_lt i) (b_lt i) g aq (newQ (kOf i) (bOf i) z s0 s1 sq) (newF (kOf i) (bOf i) z s0 s1 fc) z y := fun hc => by
    have h9 := hc7.mp hc
    unfold bodyRun.sl.v84
    refine (readAt_rowsOf M10.view _ (bOf i) (b_lt i) _ o6).trans ?_
    rw [dif_neg (n6 (by omega)), dif_pos (p5 (by omega)), dif_neg (n4 (by omega))]
    refine (congrArg (fun u => rowsOf u (bOf i) (b_lt i)) (read_putRows M10.view _ (bOf i) _ _ o2)).trans ?_
    rw [rowsOf_putRows, pay18_eq, q2, q8, q9, qv88, qr2]
    unfold newY
    rw [if_neg (by omega)]
  iapply Hk
  isplitl [H2]; · iexact H2
  isplitl [H3]; · iexact H3
  isplitl [H4]; · iexact H4
  isplitl [H5]
  · iexists _; isplitr; swap; (· iexact H5); ipureintro
    by_cases h9 : kOf i = 9
    · rw [if_pos h9, dif_pos (hc7.mpr h9)]
      exact (View.read_writes_full M5.view f5 _ _ []).trans (by rw [qv84])
    · rw [if_neg h9, dif_neg (fun e => h9 (hc7.mp e)), e5]
  isplitl [H6]
  · iexists _; isplitr; swap; (· iexact H6); ipureintro
    rcases (by omega : kOf i = 0 ∨ kOf i % 2 = 1 ∨ (0 < kOf i ∧ kOf i % 2 = 0)) with hk0 | hk1 | hk2
    · rw [if_pos (by omega), dif_neg (n6 (by omega)), dif_pos (p4 hk0)]
      refine (read_putRows M6.view _ (bOf i) _ _ o1).trans ?_
      rw [pay15_eq, q2, q8, q9, e6]
    · rw [if_neg (by omega), dif_neg (n6 (by omega)), dif_neg (n4 (by omega)), e6]
    · rw [if_pos hk2.2, dif_pos (p6 hk2), dif_neg (n4 (by omega))]
      refine (read_putRows M6.view _ (bOf i) _ _ o4).trans ?_
      rw [pay1_eq, qr3, e6]
  isplitl [H7]
  · iexists _; isplitr; swap; (· iexact H7); ipureintro
    by_cases hk1 : kOf i % 2 = 1
    · rw [if_pos hk1, dif_pos (p5 hk1)]
      refine (read_putRows M7.view _ (bOf i) _ _ o2).trans ?_
      rw [pay17_eq, q2, q8, q9, e7]
    · rw [if_neg hk1, dif_neg (n5 (by omega)), e7]
  isplitl [H8]
  · iexists _; isplitr; swap; (· iexact H8); ipureintro
    unfold bodyRun.sl.v42 at q8
    rw [View.readAt_full M8.view] at q8
    exact q8
  isplitl [H9]
  · iexists _; isplitr; swap; (· iexact H9); ipureintro
    unfold bodyRun.sl.v44 at q9
    rw [View.readAt_full M9.view] at q9
    exact q9
  · iexists _; isplitr; swap; (· iexact H10); ipureintro
    rcases (by omega : kOf i = 0 ∨ kOf i % 2 = 1 ∨ (0 < kOf i ∧ kOf i % 2 = 0)) with hk0 | hk1 | hk2
    · rw [dif_neg (n6 (by omega)), dif_neg (n5 (by omega)), dif_pos (p4 hk0)]
      refine (read_putRows M10.view _ (bOf i) _ _ o1).trans ?_
      rw [q2, q8, q9, qr, qr1, qz (p4 hk0), e10]
      unfold newY
      rw [if_pos hk0]
    · rw [dif_neg (n6 (by omega)), dif_pos (p5 hk1), dif_neg (n4 (by omega))]
      refine (read_putRows M10.view _ (bOf i) _ _ o2).trans ?_
      rw [pay18_eq, q2, q8, q9, qv88, qr2, e10]
      unfold newY
      rw [if_neg (by omega)]
    · rw [dif_pos (p6 hk2), dif_neg (n5 hk2.2), dif_neg (n4 (by omega))]
      refine (read_putRows M10.view _ (bOf i) _ _ o4).trans ?_
      rw [qr3, qv88', qr4, e10]
      unfold newY
      rw [if_neg (by omega)]

end Runs

end Cert.Proof.Region1

end
-- ==== Proof.Passes.lean ====
module

public import proofs.«01_k».proof.Proof.Reads

@[expose] public section

set_option maxRecDepth 16384

noncomputable section

namespace Cert.Proof.Region1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The array as its 25 row blocks -/

/-- An index of a row block. -/
def rowIx (r : Fin 400) (d : Fin 64) : S400x64.Idx
  | ⟨0, _⟩ => r
  | ⟨1, _⟩ => d

/-- An index of the whole array. -/
def arrIx (r : Fin 10000) (d : Fin 64) : S10000x64.Idx
  | ⟨0, _⟩ => r
  | ⟨1, _⟩ => d

/-- An array from its 25 row blocks. -/
def assemble {α : Type} (w : (b : ℕ) → b < 25 → S400x64.Idx → α) : S10000x64.Idx → α := fun j =>
  have hj : (j 0).val < 10000 := (j 0).isLt
  w ((j 0).val / 400) (by omega) (rowIx ⟨(j 0).val % 400, by omega⟩ (j 1))

/-- The rows of a block, read at an index. -/
theorem rowsOf_apply {α : Type} (y : S10000x64.Idx → α) (b : ℕ) (hb : b < 25) (j : S400x64.Idx) :
    rowsOf y b hb j = y (arrIx ⟨400 * b + (j 0).val, by have : (j 0).val < 400 := (j 0).isLt; omega⟩ (j 1)) :=
  congrArg y (funext fun a => Fin.ext (by
    match a with
    | ⟨0, _⟩ => show 400 * b + 1 * (j 0).val = 400 * b + (j 0).val; omega
    | ⟨1, _⟩ => show 0 + 1 * (j 1).val = (j 1).val; omega))

/-- An index of the whole array lies in its row's block. -/
theorem rowsOf_at {α : Type} (y : S10000x64.Idx → α) (j : S10000x64.Idx) :
    y j = rowsOf y ((j 0).val / 400) (by have : (j 0).val < 10000 := (j 0).isLt; omega) (rowIx ⟨(j 0).val % 400, by omega⟩ (j 1)) := by
  rw [rowsOf_apply]
  refine congrArg y (funext fun a => Fin.ext ?_)
  match a with
  | ⟨0, _⟩ => show (j 0).val = 400 * ((j 0).val / 400) + (j 0).val % 400; omega
  | ⟨1, _⟩ => rfl

/-- Arrays with the same row blocks are equal. -/
theorem ext_rows {α : Type} (x y : S10000x64.Idx → α) (h : ∀ b (hb : b < 25), rowsOf x b hb = rowsOf y b hb) : x = y := by
  funext j
  rw [rowsOf_at x, rowsOf_at y, h]

/-- The rows of a block of an assembled array are that block. -/
theorem rowsOf_assemble {α : Type} (w : (b : ℕ) → b < 25 → S400x64.Idx → α) (b : ℕ) (hb : b < 25) : rowsOf (assemble w) b hb = w b hb := by
  funext j
  have hj : (j 0).val < 400 := (j 0).isLt
  rw [rowsOf_apply]
  show w ((400 * b + (j 0).val) / 400) _ (rowIx ⟨(400 * b + (j 0).val) % 400, _⟩ (j 1)) = w b hb j
  have key : ∀ (b' : ℕ) (hb' : b' < 25) (r : Fin 400), b' = b → r.val = (j 0).val → w b' hb' (rowIx r (j 1)) = w b hb j := by
    rintro b' hb' r rfl hr
    refine congrArg (w b' hb') (funext fun a => Fin.ext ?_)
    match a with
    | ⟨0, _⟩ => exact hr
    | ⟨1, _⟩ => rfl
  exact key _ _ _ (by omega) (by show (400 * b + (j 0).val) % 400 = (j 0).val; omega)

/-- Replacing one block's rows leaves the other blocks' rows. -/
theorem rowsOf_putRows_ne {α : Type} (y : S10000x64.Idx → α) (b b' : ℕ) (hb' : b' < 25) (w : S400x64.Idx → α) (h : b ≠ b') :
    rowsOf (putRows y b w) b' hb' = rowsOf y b' hb' :=
  VecWindow.window_put_of_disjoint y ![400 * b, 0] S400x64.size ![400 * b', 0] S400x64.size _ w 0
    (by show 400 * b' + 400 ≤ 400 * b ∨ 400 * b + 400 ≤ 400 * b'; omega)

/-! ## What the passes compute -/

section Passes

variable (AQ : (b : ℕ) → b < 25 → Vec F S1x400x10000 .fp8e4m3) (z : Vec F S10000x64 .f32) (g : S11.Idx → Elt F .f32)

/-- The array kept by pass `n`: the projected features, then one rescaled product after the other. -/
def cur : ℕ → Vec F S10000x64 .f32
  | 0 => z
  | n + 1 => assemble fun b hb => k1_pay14 (AQ b hb) (k1_pay6 (cur n)) (k1_pay7 (cur n))

/-- The running sum after pass `n`. -/
def acc : ℕ → Vec F S10000x64 .f32
  | 0 => z
  | n + 1 => if hn : n < 10 then assemble fun b hb => newY n b hn hb g (AQ b hb) (k1_pay6 (cur AQ z n)) (k1_pay7 (cur AQ z n)) z (acc n) else acc n

/-- How many passes have dealt with block `b` before point `t`. -/
def done (t b : ℕ) : ℕ := (t + 24 - b) / 25

/-- What the five kept buffers hold before point `t`. -/
structure Inv (t : ℕ) (s0 s1 : Vec F S10000x64 .f32) (sq : Vec F S10000x64 .fp8e4m3) (fc : Vec F S1x64 .f32) (y : Vec F S10000x64 .f32) : Prop where
  h0 : ∀ b (hb : b < 25) k, k % 2 = 1 → (done t b = k ∨ done t b = k + 1) → rowsOf s0 b hb = rowsOf (cur AQ z k) b hb
  h1 : ∀ b (hb : b < 25) k, k % 2 = 0 → 0 < k → (done t b = k ∨ done t b = k + 1) → rowsOf s1 b hb = rowsOf (cur AQ z k) b hb
  hy : ∀ b (hb : b < 25), 0 < done t b → rowsOf y b hb = rowsOf (acc AQ z g (done t b)) b hb
  hq : t % 25 ≠ 0 → sq = k1_pay6 (cur AQ z (t / 25))
  hf : t % 25 ≠ 0 → fc = k1_pay7 (cur AQ z (t / 25))

/-- Before the first point nothing is asked of the kept buffers. -/
theorem Inv.zero (s0 s1 : Vec F S10000x64 .f32) (sq : Vec F S10000x64 .fp8e4m3) (fc : Vec F S1x64 .f32) (y : Vec F S10000x64 .f32) :
    Inv AQ z g 0 s0 s1 sq fc y where
  h0 b hb k hk h := by unfold done at h; omega
  h1 b hb k hk hk0 h := by unfold done at h; omega
  hy b hb h := by unfold done at h; omega
  hq h := absurd rfl h
  hf h := absurd rfl h

variable {AQ z g} {s0 s1 y : Vec F S10000x64 .f32} {sq : Vec F S10000x64 .fp8e4m3} {fc : Vec F S1x64 .f32}

/-- The kept array a pass reads is the one the pass before it left. -/
theorem Inv.source {k : ℕ} (h : Inv AQ z g (25 * k) s0 s1 sq fc y) :
    (if k = 0 then z else if k % 2 = 1 then s0 else s1) = cur AQ z k := by
  by_cases hk : k = 0
  · subst hk; rfl
  rw [if_neg hk]
  by_cases h2 : k % 2 = 1
  · rw [if_pos h2]
    exact ext_rows _ _ fun b hb => h.h0 b hb k h2 (.inl (by unfold done; omega))
  · rw [if_neg h2]
    exact ext_rows _ _ fun b hb => h.h1 b hb k (by omega) (by omega) (.inl (by unfold done; omega))

/-- Every point of pass `k` multiplies by the quantised array that pass reads. -/
theorem Inv.newQ_eq {k b : ℕ} (hb : b < 25) (h : Inv AQ z g (25 * k + b) s0 s1 sq fc y) : newQ k b z s0 s1 sq = k1_pay6 (cur AQ z k) := by
  unfold newQ
  by_cases h0 : b = 0
  · subst h0; rw [if_pos rfl, h.source]
  · rw [if_neg h0, h.hq (by omega), show (25 * k + b) / 25 = k by omega]

/-- The same for the rescaling factors. -/
theorem Inv.newF_eq {k b : ℕ} (hb : b < 25) (h : Inv AQ z g (25 * k + b) s0 s1 sq fc y) : newF k b z s0 s1 fc = k1_pay7 (cur AQ z k) := by
  unfold newF
  by_cases h0 : b = 0
  · subst h0; rw [if_pos rfl, h.source]
  · rw [if_neg h0, h.hf (by omega), show (25 * k + b) / 25 = k by omega]

/-- The product a point computes is its block of the next kept array. -/
theorem res_eq (k b : ℕ) (hb : b < 25) : k1_pay14 (AQ b hb) (k1_pay6 (cur AQ z k)) (k1_pay7 (cur AQ z k)) = rowsOf (cur AQ z (k + 1)) b hb :=
  (rowsOf_assemble (fun b hb => k1_pay14 (AQ b hb) (k1_pay6 (cur AQ z k)) (k1_pay7 (cur AQ z k))) b hb).symm

/-- The rows of the running sum a point leaves are its block of the next running sum. -/
theorem Inv.newY_eq {k b : ℕ} (hk : k < 10) (hb : b < 25) (h : Inv AQ z g (25 * k + b) s0 s1 sq fc y) :
    newY k b hk hb g (AQ b hb) (k1_pay6 (cur AQ z k)) (k1_pay7 (cur AQ z k)) z y = rowsOf (acc AQ z g (k + 1)) b hb := by
  have e : acc AQ z g (k + 1) = assemble fun b hb => newY k b hk hb g (AQ b hb) (k1_pay6 (cur AQ z k)) (k1_pay7 (cur AQ z k)) z (acc AQ z g k) := dif_pos hk
  rw [e, rowsOf_assemble]
  unfold newY
  by_cases h0 : k = 0
  · rw [if_pos h0, if_pos h0]
  · have hd : done (25 * k + b) b = k := by unfold done; omega
    rw [if_neg h0, if_neg h0, h.hy b hb (by omega), hd]

/-- A point takes what the kept buffers hold before it to what they hold before the next. -/
theorem Inv.succ {k b : ℕ} (hk : k < 10) (hb : b < 25) (h : Inv AQ z g (25 * k + b) s0 s1 sq fc y) :
    Inv AQ z g (25 * k + b + 1)
      (if k % 2 = 0 then putRows s0 b (rowsOf (cur AQ z (k + 1)) b hb) else s0)
      (if k % 2 = 1 then putRows s1 b (rowsOf (cur AQ z (k + 1)) b hb) else s1)
      (k1_pay6 (cur AQ z k)) (k1_pay7 (cur AQ z k))
      (putRows y b (rowsOf (acc AQ z g (k + 1)) b hb)) := by
  have hd : ∀ b', b' < 25 → b ≠ b' → done (25 * k + b + 1) b' = done (25 * k + b) b' := fun b' hb' hne => by unfold done; omega
  have hs : done (25 * k + b + 1) b = k + 1 := by unfold done; omega
  have hs' : done (25 * k + b) b = k := by unfold done; omega
  constructor
  · intro b' hb' n hn hdn
    by_cases e : b = b'
    · subst e
      rw [hs] at hdn
      by_cases h2 : k % 2 = 0
      · rw [if_pos h2, rowsOf_putRows, show n = k + 1 by omega]
      · rw [if_neg h2]; exact h.h0 b hb n hn (by omega)
    · rw [hd b' hb' e] at hdn
      rw [← h.h0 b' hb' n hn hdn]
      split_ifs
      · exact rowsOf_putRows_ne _ _ _ _ _ e
      · rfl
  · intro b' hb' n hn hn0 hdn
    by_cases e : b = b'
    · subst e
      rw [hs] at hdn
      by_cases h2 : k % 2 = 1
      · rw [if_pos h2, rowsOf_putRows, show n = k + 1 by omega]
      · rw [if_neg h2]; exact h.h1 b hb n hn hn0 (by omega)
    · rw [hd b' hb' e] at hdn
      rw [← h.h1 b' hb' n hn hn0 hdn]
      split_ifs
      · exact rowsOf_putRows_ne _ _ _ _ _ e
      · rfl
  · intro b' hb' hpos
    by_cases e : b = b'
    · subst e
      rw [hs, rowsOf_putRows]
    · rw [hd b' hb' e] at hpos ⊢
      rw [rowsOf_putRows_ne _ _ _ _ _ e, h.hy b' hb' hpos]
  · intro hm; rw [show (25 * k + b + 1) / 25 = k by omega]
  · intro hm; rw [show (25 * k + b + 1) / 25 = k by omega]

end Passes

end Cert.Proof.Region1

end
-- ==== Proof.Region1Dat.lean ====
module

public import proofs.«01_k».proof.Proof.Region1
public import proofs.«01_k».proof.Proof.Passes

@[expose] public section

set_option maxRecDepth 16384

noncomputable section

namespace Cert.Proof.Region1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Points, blocks and data of the second region -/

/-- The coordinates of a point of the second grid. -/
theorem coords1 (t : Fin grid1.N) : kOf (grid1.coords t) = t.val / 25 ∧ bOf (grid1.coords t) = t.val % 25 := by
  have key : ∀ t : Fin 250, kOf (grid1.coords t) = t.val / 25 ∧ bOf (grid1.coords t) = t.val % 25 := by decide +kernel
  exact key t

/-- The result window is written back at the points of the last pass. -/
theorem flush1_3 (t : Fin grid1.N) : (cfg1.win 3).flush t = decide (225 ≤ t.val) := by
  have key : ∀ t : Fin grid1.N, Pipeline.Window.flushOf grid1 true cc1_transform_3 t = true ↔ 225 ≤ t.val := by decide +kernel
  exact (Pipeline.Window.flush_eq_flushOf win1_3 t).trans (Bool.eq_iff_iff.mpr ((key t).trans decide_eq_true_iff.symm))

/-- The result window is idle at the points of the earlier passes. -/
theorem idle1_3 (t : Fin grid1.N) : cfg1.idle 3 (cfg1.grid.coords t) = decide (t.val < 225) := by
  have key : ∀ t : Fin 250, idle1 3 (grid1.coords t) = decide (t.val < 225) := by decide +kernel
  exact key t

variable (V : (c : Dev nD) → (b : Ref sig .tc) → Buf (Elt F) ((c : Thread nD τ).loc b))

/-- Window `w`'s array at the entry valuation. -/
abbrev A (c : Dev nD) (w : Fin cfg1.W) : Buf (Elt F) ((cfg1.win w).arr.view.loc (c.tc : Thread nD τ)) :=
  V c (Pipeline.arrRef spec1 w)

/-- Window `w`'s block at point `t`, read from its array at the entry valuation. -/
abbrev blk (c : Dev nD) (w : Fin cfg1.W) (t : Fin cfg1.N) : ((cfg1.win w).xblock (cfg1.grid.coords t)).Idx → Elt F (cfg1.win w).elt :=
  ((cfg1.win w).blk t).view.read (Elt F) (A V c w)

/-- An index of the blocked adjacency array. -/
def adjIx (b : Fin 25) (r : Fin 400) (j : Fin 10000) : S25x400x10000.Idx
  | ⟨0, _⟩ => b
  | ⟨1, _⟩ => r
  | ⟨2, _⟩ => j

/-- Block `b` of the quantised adjacency. -/
def AQ (c : Dev nD) (b : ℕ) (hb : b < 25) : Vec F S1x400x10000 .fp8e4m3 := fun j =>
  (V c main_v4_1 : S25x400x10000.Idx → Elt F .fp8e4m3) (adjIx ⟨b, hb⟩ (j 1) (j 2))

/-- The projected features. -/
abbrev zIn (c : Dev nD) : Vec F S10000x64 .f32 := V c main_v4_0

/-- The coefficients. -/
abbrev gIn (c : Dev nD) : S11.Idx → Elt F .f32 := V c main_arg6

/-- The coefficients are read whole. -/
theorem blk_0 (c : Dev nD) (t : Fin cfg1.N) : (blk V c 0 t : S11.Idx → Elt F .f32) = gIn V c := by
  funext j
  refine congrArg (V c main_arg6 : S11.Idx → Elt F .f32) (funext fun a => Fin.ext ?_)
  match a with
  | ⟨0, _⟩ => exact (win1_0.rect_emb_val_of_index_zero t 0 rfl j)

/-- The projected features are read whole. -/
theorem blk_2 (c : Dev nD) (t : Fin cfg1.N) : (blk V c 2 t : S10000x64.Idx → Elt F .f32) = zIn V c := by
  funext j
  refine congrArg (V c main_v4_0 : S10000x64.Idx → Elt F .f32) (funext fun a => Fin.ext ?_)
  match a with
  | ⟨0, _⟩ => exact (win1_2.rect_emb_val_of_index_zero t 0 rfl j)
  | ⟨1, _⟩ => exact (win1_2.rect_emb_val_of_index_zero t 1 rfl j)

/-- The blocks of the quantised adjacency are taken in order, once a pass. -/
theorem index1_1 (t : Fin grid1.N) : win1_1.index t 0 = t.val % 25 := by
  have key : ∀ t : Fin 250, win1_1.index t 0 = t.val % 25 := by decide +kernel
  exact key t

/-- The block of the quantised adjacency a point reads. -/
theorem blk_1 (c : Dev nD) (t : Fin cfg1.N) (b : ℕ) (hb : b < 25) (e : t.val % 25 = b) :
    (blk V c 1 t : S1x400x10000.Idx → Elt F .fp8e4m3) = AQ V c b hb := by
  subst e
  funext j
  refine congrArg (V c main_v4_1 : S25x400x10000.Idx → Elt F .fp8e4m3) (funext fun a => Fin.ext ?_)
  match a with
  | ⟨0, _⟩ =>
    refine (win1_1.rect_emb_val t j 0).trans ?_
    have hj : (j 0).val < 1 := (j 0).isLt
    rw [index1_1]
    show t.val % 25 * 1 + (j 0).val = t.val % 25
    omega
  | ⟨1, _⟩ => exact (win1_1.rect_emb_val_of_index_zero t 1 rfl j)
  | ⟨2, _⟩ => exact (win1_1.rect_emb_val_of_index_zero t 2 rfl j)

/-- The result block of row block `b`. -/
def outBlk (c : Dev nD) (b : ℕ) (hb : b < 25) : S400x64.Idx → Elt F .f32 := k1_pay3 (rowsOf (acc (AQ V c) (zIn V c) (gIn V c) 10) b hb)

/-- The result block is computed from the rows of the running sum after the last pass. -/
theorem outBlk_of (c : Dev nD) (k b b' : ℕ) (hb' : b' < 25) (hk : k + 1 = 10) (hb : b < 25) (e : b = b') :
    k1_pay3 (rowsOf (acc (AQ V c) (zIn V c) (gIn V c) (k + 1)) b hb) = outBlk V c b' hb' := by
  subst e
  rw [hk]
  rfl

/-- The first scratch buffer of the second kernel, whole. -/
abbrev scr0 : Memref sig .tc .vmem S10000x64 .f32 := Memref.whole cc1_scratch0
/-- The second. -/
abbrev scr1 : Memref sig .tc .vmem S10000x64 .f32 := Memref.whole cc1_scratch1
/-- The third. -/
abbrev scr2 : Memref sig .tc .vmem S10000x64 .fp8e4m3 := Memref.whole cc1_scratch2
/-- The fourth. -/
abbrev scr3 : Memref sig .tc .vmem S1x64 .f32 := Memref.whole cc1_scratch3
/-- The fifth. -/
abbrev scr4 : Memref sig .tc .vmem S10000x64 .f32 := Memref.whole cc1_scratch4

/-- A scoped buffer held at something. -/
abbrev anyBuf (c : Dev nD) (b : Ref sig .tc) : sProp 𝕄 := iprop(∃ f : Buf (Elt F) ((c : Thread nD τ).loc b), ((c : Thread nD τ).loc b) ↦{fullShare} f)

/-- The first region's staging buffers, held at something. -/
def stgs (c : Dev nD) : sProp 𝕄 :=
  iprop(anyBuf (F := F) c cc0_stg0_0 ∗ anyBuf (F := F) c cc0_stg0_1 ∗ anyBuf (F := F) c cc0_stg1_0 ∗ anyBuf (F := F) c cc0_stg2_0 ∗ anyBuf (F := F) c cc0_stg3_0
    ∗ anyBuf (F := F) c cc0_stg4_0 ∗ anyBuf (F := F) c cc0_stg5_0 ∗ anyBuf (F := F) c cc0_stg5_1 ∗ anyBuf (F := F) c cc0_stg6_0 ∗ anyBuf (F := F) c cc0_stg6_1
    ∗ anyBuf (F := F) c cc0_stg7_0 ∗ anyBuf (F := F) c cc0_stg7_1)

/-- The kept buffers before point `t`, at contents of which the invariant holds. -/
def kept (c : Dev nD) (t : ℕ) : sProp 𝕄 :=
  iprop(∃ (f6 : Bf F c scr0) (f7 : Bf F c scr1) (f8 : Bf F c scr2) (f9 : Bf F c scr3) (f10 : Bf F c scr4),
    ⌜Inv (AQ V c) (zIn V c) (gIn V c) t (scr0.view.read (Elt F) f6) (scr1.view.read (Elt F) f7) (scr2.view.read (Elt F) f8) (scr3.view.read (Elt F) f9) (scr4.view.read (Elt F) f10)⌝
    ∗ pt c scr0 f6 ∗ pt c scr1 f7 ∗ pt c scr2 f8 ∗ pt c scr3 f9 ∗ pt c scr4 f10)

/-- The scoped buffers the second pipeline does not stage are the first region's staging buffers and, before the first
    point, the kept buffers. -/
theorem kept_zero (c : Dev nD) :
    (Pipeline.scopedRest (Ix := Unit) (Name := ℕ) (U := UU) (Lvl := ℕ) (Val := Elt F) spec1 c : sProp 𝕄) ⊢ iprop(stgs (F := F) c ∗ kept V c 0) := by
  rw [scopedRest1_eq]
  unfold stgs kept
  iintro ⟨A0, A1, A2, A3, A4, A5, A6, A7, A8, A9, A10, A11, ⟨%f6, H6⟩, ⟨%f7, H7⟩, ⟨%f8, H8⟩, ⟨%f9, H9⟩, ⟨%f10, H10⟩⟩
  isplitl [A0 A1 A2 A3 A4 A5 A6 A7 A8 A9 A10 A11]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  · iexists f6, f7, f8, f9, f10
    isplitr
    · ipureintro; exact Inv.zero _ _ _ _ _ _ _ _
    isplitl [H6]; · iexact H6
    isplitl [H7]; · iexact H7
    isplitl [H8]; · iexact H8
    isplitl [H9]; · iexact H9
    iexact H10

/-- and, after the last point, are so again. -/
theorem kept_any (c : Dev nD) (t : ℕ) :
    iprop(stgs (F := F) c ∗ kept V c t) ⊢ (Pipeline.scopedRest (Ix := Unit) (Name := ℕ) (U := UU) (Lvl := ℕ) (Val := Elt F) spec1 c : sProp 𝕄) := by
  rw [scopedRest1_eq]
  unfold stgs kept
  iintro ⟨⟨A0, A1, A2, A3, A4, A5, A6, A7, A8, A9, A10, A11⟩, ⟨%f6, %f7, %f8, %f9, %f10, -, H6, H7, H8, H9, H10⟩⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [H6]; · iexists f6; iexact H6
  isplitl [H7]; · iexists f7; iexact H7
  isplitl [H8]; · iexists f8; iexact H8
  isplitl [H9]; · iexists f9; iexact H9
  iexists f10; iexact H10

/-- The invariant before point `t`. -/
abbrev S (c : Dev nD) (t : ℕ) (_ : t ≤ cfg1.N) : sProp 𝕄 := iprop(stgs (F := F) c ∗ kept V c t)

/-- The proof data of the second region: inputs are left as fetched, the result holds the block of its rows. -/
def dat (c : Dev nD) : Dat τ (Elt F) Unit ℕ UU ℕ cfg1 c where
  A w := A V c w
  after w t := match w with
    | ⟨0, _⟩ => blk V c 0 t
    | ⟨1, _⟩ => blk V c 1 t
    | ⟨2, _⟩ => blk V c 2 t
    | ⟨3, _⟩ => outBlk V c (t.val % 25) (Nat.mod_lt _ (by decide))
  Φ t := S V c t.val (Nat.le_of_lt_succ t.isLt)
  q _ := fullShare
  owed _ := 0

/-- An input window finds the block of its array, fetched at this point or before. -/
theorem before_in (c : Dev nD) (t : Fin cfg1.N) :
    (∀ d, (dat V c).before 0 t d = blk V c 0 t) ∧ (∀ d, (dat V c).before 1 t d = blk V c 1 t) ∧ (∀ d, (dat V c).before 2 t d = blk V c 2 t) :=
  ⟨fun d => (dat V c).before_in_eq_fetched 0 rfl (fun _ => rfl) (fun _ _ _ => rfl) (fun _ => rfl) t d,
   fun d => (dat V c).before_in_eq_fetched 1 rfl (fun _ => rfl) (fun _ _ _ => rfl) (fun _ => rfl) t d,
   fun d => (dat V c).before_in_eq_fetched 2 rfl (fun _ => rfl) (fun _ _ _ => rfl) (fun _ => rfl) t d⟩

/-- The body meets the pipeline's obligation at every point. -/
theorem body_obligation (c : Dev nD) : BodyObligation (dat V c) (defs₀ (F := F)) Variants.none () Set.univ := fun t => by
  rw [bigSep_W1, bigSep_W1]
  dsimp only
  obtain ⟨b0, b1, b2⟩ := before_in V c t
  simp only [b0, b1, b2, owns_pt c (stage1_0 _) (hstage1_0 _), owns_pt c (stage1_1 _) (hstage1_1 _),
    owns_pt c (stage1_2 _) (hstage1_2 _), owns_pt c (stage1_3 _) (hstage1_3 _)]
  have hN : t.val < 250 := t.isLt
  obtain ⟨ck, cb⟩ := coords1 t
  have hk := k_lt (grid1.coords t)
  have hb := b_lt (grid1.coords t)
  have ht : t.val = 25 * kOf (grid1.coords t) + bOf (grid1.coords t) := by omega
  rw [show (dat V c).Φ t.castSucc = S V c t.val t.isLt.le from rfl, show (dat V c).Φ t.succ = S V c (t.val + 1) t.isLt from rfl,
    show (dat V c).owesAt () t.succ = (dat V c).owesAt () t.castSucc from rfl]
  unfold S kept
  iintro ⟨⟨Hst, ⟨%f6, %f7, %f8, %f9, %f10, %hInv, H6, H7, H8, H9, H10⟩⟩, Howes, ⟨%d0, %f2, %e2, H2⟩, ⟨%d1, %f3, %e3, H3⟩, ⟨%d2, %f4, %e4, H4⟩, ⟨%d3, %f5, %e5, H5⟩⟩
  rw [ht] at hInv
  have eq := hInv.newQ_eq hb
  have ef := hInv.newF_eq hb
  have ey := hInv.newY_eq hk hb
  have hI := hInv.succ hk hb
  rw [← ht] at hI
  have r2 := e2.trans (blk_0 V c t)
  have r3 := e3.trans (blk_1 V c t _ hb cb.symm)
  have r4 := e4.trans (blk_2 V c t)
  iapply (bodyRun c (grid1.coords t) _ (hstage1_0 _) _ (hstage1_1 _) _ (hstage1_2 _) _ (hstage1_3 _) scr0 (Memref.isWhole_whole _) scr1 (Memref.isWhole_whole _)
    scr2 (Memref.isWhole_whole _) scr3 (Memref.isWhole_whole _) scr4 (Memref.isWhole_whole _) f2 f3 f4 f5 f6 f7 f8 f9 f10
    _ _ _ _ _ _ _ _ _ r2 r3 r4 rfl rfl rfl rfl rfl rfl Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  rw [eq, ef, ey, res_eq]
  iintro ⟨H2, H3, H4, ⟨%x5, %g5, H5⟩, ⟨%x6, %g6, H6⟩, ⟨%x7, %g7, H7⟩, ⟨%x8, %g8, H8⟩, ⟨%x9, %g9, H9⟩, ⟨%x10, %g10, H10⟩⟩
  isplitl [Hst H6 H7 H8 H9 H10]
  · isplitl [Hst]; · iexact Hst
    iexists x6, x7, x8, x9, x10
    isplitr
    · ipureintro; rw [g6, g7, g8, g9, g10]; exact hI
    isplitl [H6]; · iexact H6
    isplitl [H7]; · iexact H7
    isplitl [H8]; · iexact H8
    isplitl [H9]; · iexact H9
    iexact H10
  isplitl [Howes]; · iexact Howes
  isplitl [H2]; · iexists f2; isplitr; swap; (· iexact H2); ipureintro; dsimp only [dat]; exact e2
  isplitl [H3]; · iexists f3; isplitr; swap; (· iexact H3); ipureintro; dsimp only [dat]; exact e3
  isplitl [H4]; · iexists f4; isplitr; swap; (· iexact H4); ipureintro; dsimp only [dat]; exact e4
  have hidle : idle1 3 (grid1.coords t) = decide (t.val < 225) := idle1_3 t
  have hflush : (win1 3).flush t = decide (225 ≤ t.val) := flush1_3 t
  by_cases h9 : kOf (grid1.coords t) = 9
  · rw [hidle, decide_eq_false (by omega)]
    dsimp only
    iexists x5; isplitr; swap; (· iexact H5); ipureintro; dsimp only [dat]
    rw [g5, if_pos h9]
    exact outBlk_of V c _ _ _ _ (by omega) hb cb
  · rw [hidle, decide_eq_true (by omega), hflush, decide_eq_false (by omega)]
    dsimp only
    iexists d3, x5; isplitr; swap; (· iexact H5); ipureintro
    rw [g5, if_neg h9]; exact e5

end Cert.Proof.Region1

end
-- ==== Proof.Run.lean ====
module

public import proofs.«01_k».proof.Proof.Region0
public import proofs.«01_k».proof.Proof.Region1Dat
public import proofs.«01_k».proof.Proof.Gen.KernelIdeal.Regions
public import Idealize.ShloMosaic.Lib.Pipeline.Regions
public import Idealize.ShloMosaic.Lib.Pipeline.RegionArrays

@[expose] public section

set_option maxRecDepth 16384

noncomputable section

namespace Cert.Proof.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F] [Named F]

local notation "𝕄" => MT nD τ sig Unit (Elt F) ℕ UU ℕ

/-- The pipelines' algebra is the left component of the run's. -/
abbrev EP : Emb (UR sig nD τ) (MT nD τ sig Unit (Elt F) ℕ UU ℕ) := embL

/-- No core owes another anything: no level is assigned. -/
abbrev L : GSem nD τ sig → Finset Unit := fun _ => ∅
/-- The level of a due: none is owed. -/
abbrev lv : GSem nD τ sig → Unit → ℕ := fun _ _ => 0
/-- The programs read no variant. -/
abbrev 𝒱₀ : Variants := Variants.none

/-- A valuation of every core's buffers. -/
abbrev Vals (F : FTy → Type) : Type := (c : Dev nD) → (b : Ref sig .tc) → Buf (Elt F) ((c : Thread nD τ).loc b)

variable (V W : Vals F)

/-- The two regions' proof data: the first entered at `V`, the second at `W`. -/
def pdats : (p : Fin 2) → (c : Dev nD) → Dat τ (Elt F) Unit ℕ UU ℕ (cfgs p) c
  | ⟨0, _⟩ => fun c => Region0.dat V c
  | ⟨1, _⟩ => fun c => Region1.dat W c

/-- The core owes nothing. -/
abbrev R (c : Dev nD) : sProp 𝕄 := iprop(∃ T, owes (c : Thread nD τ) (0 : CellTallies nD τ sig Unit) T)

set_option backward.isDefEq.respectTransparency.types false in
/-- The first region: entered with every unscoped buffer at `V`, left with them at `V'`, which has the two results' arrays
    at what the pipeline leaves and agrees with `V` elsewhere. -/
def reg0 (V' : Vals F) (h6 : ∀ c, V' c main_v4_0 = (Region0.dat V c).arrAt 6 cfg0.N) (h7 : ∀ c, V' c main_v4_1 = (Region0.dat V c).arrAt 7 cfg0.N)
    (hne : ∀ c (b : Ref sig .tc), b ≠ main_v4_0 → b ≠ main_v4_1 → V' c b = V c b) :
    Pipeline.RegionSeg (pcfgs (F := F)) adm (pdats V W) () defs₀ 𝒱₀ L lv 0 where
  win := (launch0).win.to₀
  block_pos := (launch0).block_pos
  stage_whole := (launch0).stage_whole
  K := PEmpty
  osem k := k.elim
  ho := Pipeline.OwnSemFacts.none _
  hbody c := (Region0.body_obligation V c).loose
  hwaits := Pipeline.hwaits_of_owed_zero _ _ _ _ L lv 0 fun _ _ => rfl
  pre c := iprop(unscopedBufs c (V c) ∗ R c)
  post c := iprop(unscopedBufs c (V' c) ∗ R c)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs (p := 0) (pcfgs (F := F)) adm (pdats V W) (launch0).win (launch0).arr_whole c
      ((pdats V W 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitr; · iempintro
    iexact Hrest
  hin c := by
    rw [show (pdats V W 0 c).Φ 0 = Region0.Φc c from rfl]
    iintro ⟨-, -, Hr⟩; iexact Hr
  hout c := by
    rw [Pipeline.ownSems0_none, show (pdats V W 0 c).Φ (Fin.last _) = Region0.Φc c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) (launch0).win (launch0).arr_whole c
      (pdats V W) ((pdats V W 0 c).share_full fun _ => rfl) (V c) (V' c) ((pdats V W 0 c).arrAt · cfg0.N)
      (fun w => by
        fin_cases w
        · exact ((pdats V W 0 c).arrAt_in 0 rfl _).trans (hne c main_arg0 (by decide) (by decide)).symm
        · exact ((pdats V W 0 c).arrAt_in 1 rfl _).trans (hne c main_v0 (by decide) (by decide)).symm
        · exact ((pdats V W 0 c).arrAt_in 2 rfl _).trans (hne c main_v1 (by decide) (by decide)).symm
        · exact ((pdats V W 0 c).arrAt_in 3 rfl _).trans (hne c main_v2 (by decide) (by decide)).symm
        · exact ((pdats V W 0 c).arrAt_in 4 rfl _).trans (hne c main_v3 (by decide) (by decide)).symm
        · exact ((pdats V W 0 c).arrAt_in 5 rfl _).trans (hne c main_arg1 (by decide) (by decide)).symm
        · exact (h6 c).symm
        · exact (h7 c).symm)
      (fun b hb => hne c b (fun h => hb (h ▸ Finset.mem_image.mpr ⟨6, Finset.mem_univ _, rfl⟩))
        (fun h => hb (h ▸ Finset.mem_image.mpr ⟨7, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%T, -, HO⟩; iexists T; iexact HO

set_option backward.isDefEq.respectTransparency.types false in
/-- The second region: entered with every unscoped buffer at `W`, left with them at `W'`, which has the result's array at
    what the pipeline leaves and agrees with `W` elsewhere. -/
def reg1 (W' : Vals F) (h3 : ∀ c, W' c main_v5 = (Region1.dat W c).arrAt 3 cfg1.N)
    (hne : ∀ c (b : Ref sig .tc), b ≠ main_v5 → W' c b = W c b) :
    Pipeline.RegionSeg (pcfgs (F := F)) adm (pdats V W) () defs₀ 𝒱₀ L lv 1 where
  win := (launch1).win.to₀
  block_pos := (launch1).block_pos
  stage_whole := (launch1).stage_whole
  K := PEmpty
  osem k := k.elim
  ho := Pipeline.OwnSemFacts.none _
  hbody c := (Region1.body_obligation W c).loose
  hwaits := Pipeline.hwaits_of_owed_zero _ _ _ _ L lv 1 fun _ _ => rfl
  pre c := iprop(unscopedBufs c (W c) ∗ R c)
  post c := iprop(unscopedBufs c (W' c) ∗ R c)
  X _ := BI.emp
  Y _ := BI.emp
  Z c := Pipeline.unscopedRest (Ix := Unit) (Name := ℕ) (U := UU) (Lvl := ℕ) spec1 c (W c)
  hentry c := by
    rw [Pipeline.ownSems0_none]
    have hsplit := Pipeline.arrays_of_unscopedBufs (p := 1) (pcfgs (F := F)) adm (pdats V W) (launch1).win (launch1).arr_whole c
      ((pdats V W 1 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%T, HO⟩; iexists T; isplitr; · ipureintro; exact fun _ _ => Or.inl trivial
      iexact HO
    isplitr; · iempintro
    iexact Hrest
  hin c := by
    rw [show (pdats V W 1 c).Φ 0 = Region1.S W c 0 (Nat.zero_le _) from rfl]
    iintro ⟨-, -, Hr⟩
    iapply (Region1.kept_zero W c)
    iexact Hr
  hout c := by
    rw [Pipeline.ownSems0_none, show (pdats V W 1 c).Φ (Fin.last _) = Region1.S W c cfg1.N le_rfl from rfl]
    iintro Hr
    isplitr; · iempintro
    isplitr; · iempintro
    iapply (Region1.kept_any W c cfg1.N)
    iexact Hr
  hexit c := by
    have hjoin := Pipeline.unscopedBufs_of_arrays (p := 1) (pcfgs (F := F)) adm (Ix := Unit) (Name := ℕ) (U := UU) (Lvl := ℕ) (launch1).win (launch1).arr_whole c
      (pdats V W) ((pdats V W 1 c).share_full fun _ => rfl) (W c) (W' c) ((pdats V W 1 c).arrAt · cfg1.N)
      (fun w => by
        fin_cases w
        · exact ((pdats V W 1 c).arrAt_in 0 rfl _).trans (hne c main_arg6 (by decide)).symm
        · exact ((pdats V W 1 c).arrAt_in 1 rfl _).trans (hne c main_v4_1 (by decide)).symm
        · exact ((pdats V W 1 c).arrAt_in 2 rfl _).trans (hne c main_v4_0 (by decide)).symm
        · exact (h3 c).symm)
      (fun b hb => hne c b (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%T, -, HO⟩; iexists T; iexact HO

variable (m : (ℓ : Loc nD τ sig) → Buf (Elt F) ℓ)

/-- The unscoped buffers when the first region is entered: the host stretch has run. -/
abbrev U1 : Vals F := fun c b => V1 m c b

/-- A core's buffers after the first region. -/
def X2 (c : Dev nD) : Valuation τ sig (Elt F) :=
  Function.update (Function.update (V1 m c) main_v4_0 ((Region0.dat (U1 m) c).arrAt 6 cfg0.N)) main_v4_1 ((Region0.dat (U1 m) c).arrAt 7 cfg0.N)

/-- The unscoped buffers when the second region is entered. -/
abbrev U2 : Vals F := fun c b => X2 m c b

/-- A core's buffers after the second region. -/
def X3 (c : Dev nD) : Valuation τ sig (Elt F) :=
  Function.update (X2 m c) main_v5 ((Region1.dat (U2 m) c).arrAt 3 cfg1.N)

/-- The unscoped buffers at the end. -/
abbrev U3 : Vals F := fun c b => X3 m c b

/-- After the first region the quantised adjacency is in its buffer. -/
theorem X2_adj (c : Dev nD) : U2 m c main_v4_1 = (Region0.dat (U1 m) c).arrAt 7 cfg0.N := Function.update_self _ _ _

/-- After the first region the projected features are in their buffer. -/
theorem X2_z (c : Dev nD) : U2 m c main_v4_0 = (Region0.dat (U1 m) c).arrAt 6 cfg0.N := by
  unfold U2 X2
  rw [Function.update_of_ne (StableHlo.devRef_ne_of_ne (by decide : (main_v4_0 : Ref sig .tc) ≠ main_v4_1)), Function.update_self]

/-- The first region leaves every other buffer as it was. -/
theorem X2_ne (c : Dev nD) (b : Ref sig .tc) (h0 : b ≠ main_v4_0) (h1 : b ≠ main_v4_1) : U2 m c b = U1 m c b := by
  unfold U2 U1 X2
  rw [Function.update_of_ne (StableHlo.devRef_ne_of_ne h1), Function.update_of_ne (StableHlo.devRef_ne_of_ne h0)]

/-- After the second region the result is in its buffer. -/
theorem X3_out (c : Dev nD) : U3 m c main_v5 = (Region1.dat (U2 m) c).arrAt 3 cfg1.N := Function.update_self _ _ _

/-- The second region leaves every other buffer as it was. -/
theorem X3_ne (c : Dev nD) (b : Ref sig .tc) (h : b ≠ main_v5) : U3 m c b = U2 m c b := by
  unfold U3 U2 X3
  rw [Function.update_of_ne (StableHlo.devRef_ne_of_ne h)]

/-- A buffer that neither the host stretch nor a region writes is as at launch. -/
theorem X3_arg (c : Dev nD) (b : Ref sig .tc) (h5 : b ≠ main_v5) (h0 : b ≠ main_v4_0) (h1 : b ≠ main_v4_1) (h : b ∉ hostOps0_W) :
    U3 m c b = m ((c : Thread nD τ).loc b) :=
  (X3_ne m c b h5).trans ((X2_ne m c b h0 h1).trans (V1_of m c b h))

/-- The launch's element of the run's algebra. -/
def u₀ : UU := (initOf (Pipeline.cells cfgs cellOf_inj) (Pipeline.launchToks cfgs cellOf_inj), 1)

set_option backward.isDefEq.respectTransparency.types false in
/-- Every run of the program ends, with the result's buffer as the second region leaves it, the arguments as at launch, and
    every semaphore at zero. -/
theorem run (ρ : Dev nD → PrngReg) :
    θ_run defs (onTc (τ := τ) (main (F := F))) ⟨m, fun _ => 0, ρ⟩ (fun r => (∀ c : Dev nD,
      r.2.mem ((c.tc : Thread nD τ).loc main_v5) = (Region1.dat (U2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  let R0 := reg0 (U1 m) (U2 m) (U2 m) (X2_z m) (X2_adj m) (X2_ne m)
  let R1 := reg1 (U1 m) (U2 m) (U3 m) (X3_out m) (X3_ne m)
  refine Pipeline.θ_run_regions_kit_dev_sems (pcfgs (F := F)) adm (pdats (U1 m) (U2 m)) () cellOf_inj EP defs₀ 𝒱₀ L lv m ρ main
    (segs m 𝒱₀ L lv (fun _ c => R c) () (pdats (U1 m) (U2 m)) R0 R1)
    (fun c Q => by
      rewrite [main_chain c, Seg.run_eq_chain,
        show (segs m 𝒱₀ L lv (fun _ c => R c) () (pdats (U1 m) (U2 m)) R0 R1 c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) 0 (fun _ _ => rfl)
    (fun _ => iprop(emp)) u₀ ?_
    (T₀ := fun c => iprop(StableHlo.held (c : Thread nD τ) (Pipeline.ucRefs τ sig) (V0 m c) ∗ R c))
    (Tₙ := fun c => StableHlo.held (c : Thread nD τ) (Pipeline.ucRefs τ sig) (X3 m c))
    (hch := fun c => ⟨.rfl, ?_, ?_, ?_⟩)
    (hinit := ?_) (QY := fun c s =>
      s.mem ((c.tc : Thread nD τ).loc main_v5) = (Region1.dat (U2 m) c).arrAt 3 cfg1.N
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_)
    (hQ := fun _ h hz => ⟨h, funext fun g => hz g (.inr (regions_no_unscoped g.2))⟩)
  · unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (V1 m c) ∗ R c) ⊢ iprop(unscopedBufs c (U1 m c) ∗ R c)
    rw [← Pipeline.unscopedBufs_held (Ix := Unit) (Name := ℕ) (U := UU) (Lvl := ℕ) c (V1 m c)]
  · exact .rfl
  · show iprop(unscopedBufs c (U3 m c) ∗ R c) ⊢ iprop(StableHlo.held (c : Thread nD τ) (Pipeline.ucRefs τ sig) (X3 m c) ∗ R c)
    rw [← Pipeline.unscopedBufs_held (Ix := Unit) (Name := ℕ) (U := UU) (Lvl := ℕ) c (X3 m c)]
  · iintro ⟨H, Hla⟩
    iclear Hla
    imodintro
    iapply (show (bigSep Finset.univ fun c : Dev nD => iprop(unscopedBufs c (fun b => m ((c.tc : Thread nD τ).loc b)) ∗ unscopedSems0 c ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (bigSep Finset.univ fun c : Dev nD => iprop(StableHlo.held (c : Thread nD τ) (Pipeline.ucRefs τ sig) (V0 m c) ∗ R c) : sProp 𝕄) from
      bigSep_mono fun c _ => by
        rw [← Pipeline.unscopedBufs_held (Ix := Unit) (Name := ℕ) (U := UU) (Lvl := ℕ) c (V0 m c)]
        refine BI.Entails.trans ?_ (BI.Entails.refl _)
        show iprop(unscopedBufs c (fun b => m ((c.tc : Thread nD τ).loc b)) ∗ unscopedSems0 c ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄))
          ⊢ (iprop(unscopedBufs c (fun b => V0 m c b) ∗ R c) : sProp 𝕄)
        iintro ⟨Hb, -, HO, -, -, -⟩
        isplitl [Hb]; · iexact Hb
        iexists ∅; iexact HO)
    iexact H
  · unfold StableHlo.held
    iintro ⟨Hh, HSI⟩
    ihave Hr := (pointsTo_read_all (Pipeline.ucRefs τ sig) (fun b => ((c : Thread nD τ).1, b)) (X3 m c) s') $$ [Hh HSI]
    · isplitl [Hh] <;> iassumption
    icases Hr with ⟨%h, HSI⟩
    imodintro
    isplitr
    · ipureintro
      have hb : ∀ b : Ref sig .tc, Proc.devRef .tc b ∈ Pipeline.ucRefs τ sig → s'.mem.mem ((c.tc : Thread nD τ).loc b) = U3 m c b := fun b hb => h _ hb
      exact ⟨(hb main_v5 (Finset.mem_filter.mpr ⟨StableHlo.devRef_mem_tcRefs main_v5, by decide⟩)).trans (X3_out m c),
        (hb main_arg0 (Finset.mem_filter.mpr ⟨StableHlo.devRef_mem_tcRefs main_arg0, by decide⟩)).trans (X3_arg m c main_arg0 (by decide) (by decide) (by decide) (by decide)),
        (hb main_arg1 (Finset.mem_filter.mpr ⟨StableHlo.devRef_mem_tcRefs main_arg1, by decide⟩)).trans (X3_arg m c main_arg1 (by decide) (by decide) (by decide) (by decide)),
        (hb main_arg2 (Finset.mem_filter.mpr ⟨StableHlo.devRef_mem_tcRefs main_arg2, by decide⟩)).trans (X3_arg m c main_arg2 (by decide) (by decide) (by decide) (by decide)),
        (hb main_arg3 (Finset.mem_filter.mpr ⟨StableHlo.devRef_mem_tcRefs main_arg3, by decide⟩)).trans (X3_arg m c main_arg3 (by decide) (by decide) (by decide) (by decide)),
        (hb main_arg4 (Finset.mem_filter.mpr ⟨StableHlo.devRef_mem_tcRefs main_arg4, by decide⟩)).trans (X3_arg m c main_arg4 (by decide) (by decide) (by decide) (by decide)),
        (hb main_arg5 (Finset.mem_filter.mpr ⟨StableHlo.devRef_mem_tcRefs main_arg5, by decide⟩)).trans (X3_arg m c main_arg5 (by decide) (by decide) (by decide) (by decide)),
        (hb main_arg6 (Finset.mem_filter.mpr ⟨StableHlo.devRef_mem_tcRefs main_arg6, by decide⟩)).trans (X3_arg m c main_arg6 (by decide) (by decide) (by decide) (by decide))⟩
    · iexact HSI

end Cert.Proof.Run

end
-- ==== Proof.Same.lean ====
/-
  The printed program is the idealized one with the named constant read as the word it was printed from, so that what
  is proved of the idealized program over any floats holds of the printed one.
-/
module

public import proofs.«01_k».proof.Proof.Gen.Kernel
public import proofs.«01_k».proof.Proof.Gen.KernelIdeal

@[expose] public section

noncomputable section

namespace Cert.Proof.Same

open Idealize.ShloMosaic

/-- Every named constant read as the word it was printed from. -/
@[instance_reducible] def wordNamed {F : FTy → Type} [FloatOps F] : Named F where
  named _ _ {φ} b := Scalar.ofBits φ b

/-- The main functions of the printed and the idealized program are the same, the named constant read as its word. -/
theorem main_same {F : FTy → Type} [FloatOps F] :
  (Cert.KernelIdeal.main (F := F) : Dev Cert.Kernel.nD → _) = Cert.Kernel.main (F := F) := rfl

section
variable {F : FTy → Type} [FloatOps F]
attribute [local instance] wordNamed

/-- The first kernel's body is the same in both programs. -/
theorem cc0_same : @Cert.KernelIdeal.cc0__prep_body F _ _ = @Cert.Kernel.cc0__prep_body F _ _ := rfl

set_option maxHeartbeats 2000000 in
/-- The first part of the second kernel's body is the same in both programs. -/
theorem p1_same : @Cert.KernelIdeal.k1_part1 F _ _ _ = @Cert.Kernel.k1_part1 F _ _ := by
  unfold Cert.KernelIdeal.k1_part1 Cert.Kernel.k1_part1
  rfl

set_option maxHeartbeats 2000000 in
/-- The second part of the second kernel's body is the same in both programs. -/
theorem p2_same : @Cert.KernelIdeal.k1_part2 F _ _ _ = @Cert.Kernel.k1_part2 F _ _ := by
  unfold Cert.KernelIdeal.k1_part2 Cert.Kernel.k1_part2
  rfl

set_option maxHeartbeats 2000000 in
/-- The second kernel's body is the same in both programs. -/
theorem cc1_same : @Cert.KernelIdeal.cc1__prop_body F _ _ _ = @Cert.Kernel.cc1__prop_body F _ _ := by
  unfold Cert.KernelIdeal.cc1__prop_body Cert.Kernel.cc1__prop_body
  rw [p1_same, p2_same]
  rfl

set_option maxHeartbeats 2000000 in
/-- The two programs' kernel bodies are the same. -/
theorem defs₀_same : @Cert.KernelIdeal.defs₀ F _ _ _ = @Cert.Kernel.defs₀ F _ _ := by
  unfold Cert.KernelIdeal.defs₀ Cert.Kernel.defs₀
  rw [cc0_same, cc1_same]
  refine congrArg Defs.onTc (funext fun x => funext fun a => ?_)
  match x, a with
  | 0, (t, s) => rfl
  | 1, (t, s) => rfl
  | ⟨_ + 2, h⟩, _ => exact absurd h (Nat.not_lt.2 (Nat.le_add_left _ _))

set_option maxHeartbeats 2000000 in
/-- The two programs' definitions are the same. -/
theorem defs_same : @Cert.KernelIdeal.defs F _ _ _ = @Cert.Kernel.defs F _ _ := by
  unfold Cert.KernelIdeal.defs Cert.Kernel.defs
  rw [defs₀_same]
  rfl
end

end Cert.Proof.Same
end
-- ==== Proof.RefRun.lean ====
/-
  The reference program's run.  Its operations are the generated list; what is new here is how the result is
  named.  Every propagation step reads the previous power of the adjacency matrix twice, so the composed term grows
  with the square of the number of steps; here it is spelt through shared definitions instead: the input layer's
  result `refZ`, the propagated features `refCur`, the weighted sum `refY` and the closing log-softmax `refLsm`.
-/
module

public import proofs.«01_k».proof.Proof.Gen.ReferenceIdeal
public import Idealize.ShloMosaic.Lib.StableHlo.Run
public import Idealize.ShloMosaic.Lib.Quiescent

@[expose] public section

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 92 operations, in order (a called function's operations stand in its call's place, spelt `TRef.…`). -/
abbrev ops : List (HloOp τ sig (Elt F)) :=
  [ unary main_arg2 main_v0 ((transpose S512x512 [1, 0] · transposes_S512x512_S512x512_1_0) : (⟨S512x512, .f32⟩ : BufTy).Contents (Elt F) → (⟨S512x512, .f32⟩ : BufTy).Contents (Elt F)),
    binary main_arg0 main_v0 main_v1 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    unary main_arg3 main_v2 (broadcastInDim S1x512 ![1] bcast_S512_S1x512_1 : (⟨S512, .f32⟩ : BufTy).Contents (Elt F) → (⟨S1x512, .f32⟩ : BufTy).Contents (Elt F)),
    unary main_v2 main_v3 (broadcastInDim S10000x512 ![0, 1] bcast_S1x512_S10000x512_0_1 : (⟨S1x512, .f32⟩ : BufTy).Contents (Elt F) → (⟨S10000x512, .f32⟩ : BufTy).Contents (Elt F)),
    binary main_v1 main_v3 main_v4 (addf : (⟨S10000x512, .f32⟩ : BufTy).Contents (Elt F) → (⟨S10000x512, .f32⟩ : BufTy).Contents (Elt F) → (⟨S10000x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x512, .f32⟩) main_call0_v0) (broadcastInDim S10000x512 ![] bcast_S_S10000x512),
    TRef.binary (TRef.of (T := ⟨S10000x512, .f32⟩) main_v4) (TRef.of (T := ⟨S10000x512, .f32⟩) main_call0_v0) (TRef.of (T := ⟨S10000x512, .f32⟩) main_v5) maximumf,
    unary main_arg4 main_v6 ((transpose S512x64 [1, 0] · transposes_S64x512_S512x64_1_0) : (⟨S64x512, .f32⟩ : BufTy).Contents (Elt F) → (⟨S512x64, .f32⟩ : BufTy).Contents (Elt F)),
    binary main_v5 main_v6 main_v7 ((fun l r => Host.dotGeneral dot_S10000x512_S512x64_S10000x64_1_0_0_1_n_n none l r) : (⟨S10000x512, .f32⟩ : BufTy).Contents (Elt F) → (⟨S512x64, .f32⟩ : BufTy).Contents (Elt F) → (⟨S10000x64, .f32⟩ : BufTy).Contents (Elt F)),
    unary main_arg5 main_v8 (broadcastInDim S1x64 ![1] bcast_S64_S1x64_1 : (⟨S64, .f32⟩ : BufTy).Contents (Elt F) → (⟨S1x64, .f32⟩ : BufTy).Contents (Elt F)),
    unary main_v8 main_v9 (broadcastInDim S10000x64 ![0, 1] bcast_S1x64_S10000x64_0_1 : (⟨S1x64, .f32⟩ : BufTy).Contents (Elt F) → (⟨S10000x64, .f32⟩ : BufTy).Contents (Elt F)),
    binary main_v7 main_v9 main_v10 (addf : (⟨S10000x64, .f32⟩ : BufTy).Contents (Elt F) → (⟨S10000x64, .f32⟩ : BufTy).Contents (Elt F) → (⟨S10000x64, .f32⟩ : BufTy).Contents (Elt F)),
    unary main_arg6 main_v11 ((extractStridedSlice S1 ![0] · slices_S11_S1_0) : (⟨S11, .f32⟩ : BufTy).Contents (Elt F) → (⟨S1, .f32⟩ : BufTy).Contents (Elt F)),
    reshape main_v11 main_v12 (rfl : (.f32 : EltTy) = .f32) shapeCasts_S1_S_,
    unary main_v12 main_v13 (broadcastInDim S10000x64 ![] bcast_S_S10000x64 : (⟨S_, .f32⟩ : BufTy).Contents (Elt F) → (⟨S10000x64, .f32⟩ : BufTy).Contents (Elt F)),
    binary main_v13 main_v10 main_v14 (mulf : (⟨S10000x64, .f32⟩ : BufTy).Contents (Elt F) → (⟨S10000x64, .f32⟩ : BufTy).Contents (Elt F) → (⟨S10000x64, .f32⟩ : BufTy).Contents (Elt F)),
    binary main_arg1 main_v10 main_v15 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg6 main_v16 ((extractStridedSlice S1 ![1] · slices_S11_S1_1) : (⟨S11, .f32⟩ : BufTy).Contents (Elt F) → (⟨S1, .f32⟩ : BufTy).Contents (Elt F)),
    reshape main_v16 main_v17 (rfl : (.f32 : EltTy) = .f32) shapeCasts_S1_S_,
    unary main_v17 main_v18 (broadcastInDim S10000x64 ![] bcast_S_S10000x64 : (⟨S_, .f32⟩ : BufTy).Contents (Elt F) → (⟨S10000x64, .f32⟩ : BufTy).Contents (Elt F)),
    binary main_v18 main_v15 main_v19 (mulf : (⟨S10000x64, .f32⟩ : BufTy).Contents (Elt F) → (⟨S10000x64, .f32⟩ : BufTy).Contents (Elt F) → (⟨S10000x64, .f32⟩ : BufTy).Contents (Elt F)),
    binary main_v14 main_v19 main_v20 (addf : (⟨S10000x64, .f32⟩ : BufTy).Contents (Elt F) → (⟨S10000x64, .f32⟩ : BufTy).Contents (Elt F) → (⟨S10000x64, .f32⟩ : BufTy).Contents (Elt F)),
    binary main_arg1 main_v15 main_v21 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg6 main_v22 ((extractStridedSlice S1 ![2] · slices_S11_S1_2) : (⟨S11, .f32⟩ : BufTy).Contents (Elt F) → (⟨S1, .f32⟩ : BufTy).Contents (Elt F)),
    reshape main_v22 main_v23 (rfl : (.f32 : EltTy) = .f32) shapeCasts_S1_S_,
    unary main_v23 main_v24 (broadcastInDim S10000x64 ![] bcast_S_S10000x64 : (⟨S_, .f32⟩ : BufTy).Contents (Elt F) → (⟨S10000x64, .f32⟩ : BufTy).Contents (Elt F)),
    binary main_v24 main_v21 main_v25 (mulf : (⟨S10000x64, .f32⟩ : BufTy).Contents (Elt F) → (⟨S10000x64, .f32⟩ : BufTy).Contents (Elt F) → (⟨S10000x64, .f32⟩ : BufTy).Contents (Elt F)),
    binary main_v20 main_v25 main_v26 (addf : (⟨S10000x64, .f32⟩ : BufTy).Contents (Elt F) → (⟨S10000x64, .f32⟩ : BufTy).Contents (Elt F) → (⟨S10000x64, .f32⟩ : BufTy).Contents (Elt F)),
    binary main_arg1 main_v21 main_v27 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg6 main_v28 ((extractStridedSlice S1 ![3] · slices_S11_S1_3) : (⟨S11, .f32⟩ : BufTy).Contents (Elt F) → (⟨S1, .f32⟩ : BufTy).Contents (Elt F)),
    reshape main_v28 main_v29 (rfl : (.f32 : EltTy) = .f32) shapeCasts_S1_S_,
    unary main_v29 main_v30 (broadcastInDim S10000x64 ![] bcast_S_S10000x64 : (⟨S_, .f32⟩ : BufTy).Contents (Elt F) → (⟨S10000x64, .f32⟩ : BufTy).Contents (Elt F)),
    binary main_v30 main_v27 main_v31 (mulf : (⟨S10000x64, .f32⟩ : BufTy).Contents (Elt F) → (⟨S10000x64, .f32⟩ : BufTy).Contents (Elt F) → (⟨S10000x64, .f32⟩ : BufTy).Contents (Elt F)),
    binary main_v26 main_v31 main_v32 (addf : (⟨S10000x64, .f32⟩ : BufTy).Contents (Elt F) → (⟨S10000x64, .f32⟩ : BufTy).Contents (Elt F) → (⟨S10000x64, .f32⟩ : BufTy).Contents (Elt F)),
    binary main_arg1 main_v27 main_v33 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg6 main_v34 ((extractStridedSlice S1 ![4] · slices_S11_S1_4) : (⟨S11, .f32⟩ : BufTy).Contents (Elt F) → (⟨S1, .f32⟩ : BufTy).Contents (Elt F)),
    reshape main_v34 main_v35 (rfl : (.f32 : EltTy) = .f32) shapeCasts_S1_S_,
    unary main_v35 main_v36 (broadcastInDim S10000x64 ![] bcast_S_S10000x64 : (⟨S_, .f32⟩ : BufTy).Contents (Elt F) → (⟨S10000x64, .f32⟩ : BufTy).Contents (Elt F)),
    binary main_v36 main_v33 main_v37 (mulf : (⟨S10000x64, .f32⟩ : BufTy).Contents (Elt F) → (⟨S10000x64, .f32⟩ : BufTy).Contents (Elt F) → (⟨S10000x64, .f32⟩ : BufTy).Contents (Elt F)),
    binary main_v32 main_v37 main_v38 (addf : (⟨S10000x64, .f32⟩ : BufTy).Contents (Elt F) → (⟨S10000x64, .f32⟩ : BufTy).Contents (Elt F) → (⟨S10000x64, .f32⟩ : BufTy).Contents (Elt F)),
    binary main_arg1 main_v33 main_v39 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg6 main_v40 ((extractStridedSlice S1 ![5] · slices_S11_S1_5) : (⟨S11, .f32⟩ : BufTy).Contents (Elt F) → (⟨S1, .f32⟩ : BufTy).Contents (Elt F)),
    reshape main_v40 main_v41 (rfl : (.f32 : EltTy) = .f32) shapeCasts_S1_S_,
    unary main_v41 main_v42 (broadcastInDim S10000x64 ![] bcast_S_S10000x64 : (⟨S_, .f32⟩ : BufTy).Contents (Elt F) → (⟨S10000x64, .f32⟩ : BufTy).Contents (Elt F)),
    binary main_v42 main_v39 main_v43 (mulf : (⟨S10000x64, .f32⟩ : BufTy).Contents (Elt F) → (⟨S10000x64, .f32⟩ : BufTy).Contents (Elt F) → (⟨S10000x64, .f32⟩ : BufTy).Contents (Elt F)),
    binary main_v38 main_v43 main_v44 (addf : (⟨S10000x64, .f32⟩ : BufTy).Contents (Elt F) → (⟨S10000x64, .f32⟩ : BufTy).Contents (Elt F) → (⟨S10000x64, .f32⟩ : BufTy).Contents (Elt F)),
    binary main_arg1 main_v39 main_v45 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg6 main_v46 ((extractStridedSlice S1 ![6] · slices_S11_S1_6) : (⟨S11, .f32⟩ : BufTy).Contents (Elt F) → (⟨S1, .f32⟩ : BufTy).Contents (Elt F)),
    reshape main_v46 main_v47 (rfl : (.f32 : EltTy) = .f32) shapeCasts_S1_S_,
    unary main_v47 main_v48 (broadcastInDim S10000x64 ![] bcast_S_S10000x64 : (⟨S_, .f32⟩ : BufTy).Contents (Elt F) → (⟨S10000x64, .f32⟩ : BufTy).Contents (Elt F)),
    binary main_v48 main_v45 main_v49 (mulf : (⟨S10000x64, .f32⟩ : BufTy).Contents (Elt F) → (⟨S10000x64, .f32⟩ : BufTy).Contents (Elt F) → (⟨S10000x64, .f32⟩ : BufTy).Contents (Elt F)),
    binary main_v44 main_v49 main_v50 (addf : (⟨S10000x64, .f32⟩ : BufTy).Contents (Elt F) → (⟨S10000x64, .f32⟩ : BufTy).Contents (Elt F) → (⟨S10000x64, .f32⟩ : BufTy).Contents (Elt F)),
    binary main_arg1 main_v45 main_v51 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg6 main_v52 ((extractStridedSlice S1 ![7] · slices_S11_S1_7) : (⟨S11, .f32⟩ : BufTy).Contents (Elt F) → (⟨S1, .f32⟩ : BufTy).Contents (Elt F)),
    reshape main_v52 main_v53 (rfl : (.f32 : EltTy) = .f32) shapeCasts_S1_S_,
    unary main_v53 main_v54 (broadcastInDim S10000x64 ![] bcast_S_S10000x64 : (⟨S_, .f32⟩ : BufTy).Contents (Elt F) → (⟨S10000x64, .f32⟩ : BufTy).Contents (Elt F)),
    binary main_v54 main_v51 main_v55 (mulf : (⟨S10000x64, .f32⟩ : BufTy).Contents (Elt F) → (⟨S10000x64, .f32⟩ : BufTy).Contents (Elt F) → (⟨S10000x64, .f32⟩ : BufTy).Contents (Elt F)),
    binary main_v50 main_v55 main_v56 (addf : (⟨S10000x64, .f32⟩ : BufTy).Contents (Elt F) → (⟨S10000x64, .f32⟩ : BufTy).Contents (Elt F) → (⟨S10000x64, .f32⟩ : BufTy).Contents (Elt F)),
    binary main_arg1 main_v51 main_v57 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg6 main_v58 ((extractStridedSlice S1 ![8] · slices_S11_S1_8) : (⟨S11, .f32⟩ : BufTy).Contents (Elt F) → (⟨S1, .f32⟩ : BufTy).Contents (Elt F)),
    reshape main_v58 main_v59 (rfl : (.f32 : EltTy) = .f32) shapeCasts_S1_S_,
    unary main_v59 main_v60 (broadcastInDim S10000x64 ![] bcast_S_S10000x64 : (⟨S_, .f32⟩ : BufTy).Contents (Elt F) → (⟨S10000x64, .f32⟩ : BufTy).Contents (Elt F)),
    binary main_v60 main_v57 main_v61 (mulf : (⟨S10000x64, .f32⟩ : BufTy).Contents (Elt F) → (⟨S10000x64, .f32⟩ : BufTy).Contents (Elt F) → (⟨S10000x64, .f32⟩ : BufTy).Contents (Elt F)),
    binary main_v56 main_v61 main_v62 (addf : (⟨S10000x64, .f32⟩ : BufTy).Contents (Elt F) → (⟨S10000x64, .f32⟩ : BufTy).Contents (Elt F) → (⟨S10000x64, .f32⟩ : BufTy).Contents (Elt F)),
    binary main_arg1 main_v57 main_v63 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg6 main_v64 ((extractStridedSlice S1 ![9] · slices_S11_S1_9) : (⟨S11, .f32⟩ : BufTy).Contents (Elt F) → (⟨S1, .f32⟩ : BufTy).Contents (Elt F)),
    reshape main_v64 main_v65 (rfl : (.f32 : EltTy) = .f32) shapeCasts_S1_S_,
    unary main_v65 main_v66 (broadcastInDim S10000x64 ![] bcast_S_S10000x64 : (⟨S_, .f32⟩ : BufTy).Contents (Elt F) → (⟨S10000x64, .f32⟩ : BufTy).Contents (Elt F)),
    binary main_v66 main_v63 main_v67 (mulf : (⟨S10000x64, .f32⟩ : BufTy).Contents (Elt F) → (⟨S10000x64, .f32⟩ : BufTy).Contents (Elt F) → (⟨S10000x64, .f32⟩ : BufTy).Contents (Elt F)),
    binary main_v62 main_v67 main_v68 (addf : (⟨S10000x64, .f32⟩ : BufTy).Contents (Elt F) → (⟨S10000x64, .f32⟩ : BufTy).Contents (Elt F) → (⟨S10000x64, .f32⟩ : BufTy).Contents (Elt F)),
    binary main_arg1 main_v63 main_v69 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg6 main_v70 ((extractStridedSlice S1 ![10] · slices_S11_S1_10) : (⟨S11, .f32⟩ : BufTy).Contents (Elt F) → (⟨S1, .f32⟩ : BufTy).Contents (Elt F)),
    reshape main_v70 main_v71 (rfl : (.f32 : EltTy) = .f32) shapeCasts_S1_S_,
    unary main_v71 main_v72 (broadcastInDim S10000x64 ![] bcast_S_S10000x64 : (⟨S_, .f32⟩ : BufTy).Contents (Elt F) → (⟨S10000x64, .f32⟩ : BufTy).Contents (Elt F)),
    binary main_v72 main_v69 main_v73 (mulf : (⟨S10000x64, .f32⟩ : BufTy).Contents (Elt F) → (⟨S10000x64, .f32⟩ : BufTy).Contents (Elt F) → (⟨S10000x64, .f32⟩ : BufTy).Contents (Elt F)),
    binary main_v68 main_v73 main_v74 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call1_cst) (constant S_ .f32 0xFF800000#32),
    TRef.binary (TRef.of (T := ⟨S10000x64, .f32⟩) main_v74) (TRef.of (T := ⟨S_, .f32⟩) main_call1_cst) (TRef.of (T := ⟨S10000, .f32⟩) main_call1_v0) (fun x v => Host.reduce FloatOps.maximumf x v reducesTo_S10000x64_S10000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S10000, .f32⟩) main_call1_v1) (broadcastInDim S10000 ![] bcast_S_S10000),
    TRef.binary (TRef.of (T := ⟨S10000, .f32⟩) main_call1_v1) (TRef.of (T := ⟨S10000, .f32⟩) main_call1_v0) (TRef.of (T := ⟨S10000, .f32⟩) main_call1_v2) maximumf,
    TRef.unary (TRef.of (T := ⟨S10000, .f32⟩) main_call1_v2) (TRef.of (T := ⟨S10000x1, .f32⟩) main_call1_v3) (broadcastInDim S10000x1 ![0] bcast_S10000_S10000x1_0),
    TRef.unary (TRef.of (T := ⟨S10000x1, .f32⟩) main_call1_v3) (TRef.of (T := ⟨S10000x64, .f32⟩) main_call1_v4) (broadcastInDim S10000x64 ![0, 1] bcast_S10000x1_S10000x64_0_1),
    TRef.binary (TRef.of (T := ⟨S10000x64, .f32⟩) main_v74) (TRef.of (T := ⟨S10000x64, .f32⟩) main_call1_v4) (TRef.of (T := ⟨S10000x64, .f32⟩) main_call1_v5) subf,
    TRef.unary (TRef.of (T := ⟨S10000x64, .f32⟩) main_call1_v5) (TRef.of (T := ⟨S10000x64, .f32⟩) main_call1_v6) Host.exp,
    TRef.nullary (TRef.of (T := ⟨S_, .f32⟩) main_call1_cst_1) (constant S_ .f32 0x00000000#32),
    TRef.binary (TRef.of (T := ⟨S10000x64, .f32⟩) main_call1_v6) (TRef.of (T := ⟨S_, .f32⟩) main_call1_cst_1) (TRef.of (T := ⟨S10000, .f32⟩) main_call1_v7) (fun x v => Host.reduceAdd x v reducesTo_S10000x64_S10000_d1 h_S_),
    TRef.unary (TRef.of (T := ⟨S10000, .f32⟩) main_call1_v7) (TRef.of (T := ⟨S10000x1, .f32⟩) main_call1_v8) (broadcastInDim S10000x1 ![0] bcast_S10000_S10000x1_0),
    TRef.unary (TRef.of (T := ⟨S10000x1, .f32⟩) main_call1_v8) (TRef.of (T := ⟨S10000x1, .f32⟩) main_call1_v9) Host.log,
    TRef.unary (TRef.of (T := ⟨S10000x1, .f32⟩) main_call1_v9) (TRef.of (T := ⟨S10000x64, .f32⟩) main_call1_v10) (broadcastInDim S10000x64 ![0, 1] bcast_S10000x1_S10000x64_0_1),
    TRef.binary (TRef.of (T := ⟨S10000x64, .f32⟩) main_call1_v5) (TRef.of (T := ⟨S10000x64, .f32⟩) main_call1_v10) (TRef.of (T := ⟨S10000x64, .f32⟩) main_v75) subf ]

set_option maxRecDepth 8192 in
set_option maxHeartbeats 4000000 in
theorem main_eq (c : Dev nD) : main (F := F) c = seq ops := rfl
/-- The reference has no scoped buffers. -/
theorem scopedRefs_eq : (Finset.univ.filter fun b : Ref sig .tc => b.isScoped) = ∅ := by decide
/-- The reference has no scoped semaphores. -/
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The slice of the eleven weights at one position, for each position below eleven. -/
theorem slices (k : Nat) (h : k < 11) : S11.Slices ![k] S1 := by
  exact (by decide : ∀ k : Fin 11, S11.Slices ![k.val] S1) ⟨k, h⟩

/-- The reference's input layer: `relu (x · W1ᵀ + b1) · W2ᵀ + b2`. -/
def refZ (x : FVec F S10000x512 .f32) (w1 : FVec F S512x512 .f32) (b1 : FVec F S512 .f32) (w2 : FVec F S64x512 .f32) (b2 : FVec F S64 .f32) :
    FVec F S10000x64 .f32 :=
  addf (Host.dotGeneral dot_S10000x512_S512x64_S10000x64_1_0_0_1_n_n none
      (maximumf (addf (Host.dotGeneral dot_S10000x512_S512x512_S10000x512_1_0_0_1_n_n none x (transpose S512x512 [1, 0] w1 transposes_S512x512_S512x512_1_0))
        (broadcastInDim S10000x512 ![0, 1] bcast_S1x512_S10000x512_0_1 (broadcastInDim S1x512 ![1] bcast_S512_S1x512_1 b1)))
        (broadcastInDim S10000x512 ![] bcast_S_S10000x512 (constant S_ .f32 0x00000000#32)))
      (transpose S512x64 [1, 0] w2 transposes_S64x512_S512x64_1_0))
    (broadcastInDim S10000x64 ![0, 1] bcast_S1x64_S10000x64_0_1 (broadcastInDim S1x64 ![1] bcast_S64_S1x64_1 b2))

/-- The features after `k` multiplications by the adjacency matrix. -/
def refCur (adj : FVec F S10000x10000 .f32) (z : FVec F S10000x64 .f32) : Nat → FVec F S10000x64 .f32
  | 0 => z
  | k + 1 => Host.dotGeneral dot_S10000x10000_S10000x64_S10000x64_1_0_0_1_n_n none adj (refCur adj z k)

/-- The weight of step `k`, spread over the whole result. -/
def refGam (g : FVec F S11 .f32) (k : Nat) (h : k < 11) : FVec F S10000x64 .f32 :=
  broadcastInDim S10000x64 ![] bcast_S_S10000x64 (shapeCast S_ (extractStridedSlice S1 ![k] g (slices k h)) shapeCasts_S1_S_)

/-- The weighted sum of the first `k + 1` features. -/
def refY (adj : FVec F S10000x10000 .f32) (g : FVec F S11 .f32) (z : FVec F S10000x64 .f32) : (k : Nat) → k < 11 → FVec F S10000x64 .f32
  | 0, h => mulf (refGam g 0 h) z
  | k + 1, h => addf (refY adj g z k (Nat.lt_of_succ_lt h)) (mulf (refGam g (k + 1) h) (refCur adj z (k + 1)))

/-- The rows less their greatest entry, as the log-softmax takes it (the greatest of `-∞` and the row's). -/
def refShift (y : FVec F S10000x64 .f32) : FVec F S10000x64 .f32 :=
  subf y (broadcastInDim S10000x64 ![0, 1] bcast_S10000x1_S10000x64_0_1 (broadcastInDim S10000x1 ![0] bcast_S10000_S10000x1_0
    (maximumf (broadcastInDim S10000 ![] bcast_S_S10000 (constant S_ .f32 0xFF800000#32))
      (Host.reduce FloatOps.maximumf y (constant S_ .f32 0xFF800000#32) reducesTo_S10000x64_S10000_d1 h_S_))))

/-- The log-softmax along each row. -/
def refLsm (y : FVec F S10000x64 .f32) : FVec F S10000x64 .f32 :=
  subf (refShift y) (broadcastInDim S10000x64 ![0, 1] bcast_S10000x1_S10000x64_0_1
    (Host.log (broadcastInDim S10000x1 ![0] bcast_S10000_S10000x1_0
      (Host.reduceAdd (Host.exp (refShift y)) (constant S_ .f32 0x00000000#32) reducesTo_S10000x64_S10000_d1 h_S_))))

set_option maxRecDepth 8192 in
set_option maxHeartbeats 4000000 in
/-- What the operations leave in the result buffer, from any contents of the buffers. -/
theorem after_result (V : Valuation τ sig (Elt F)) : after ops V (Proc.devRef .tc main_v75)
    = refLsm (refY (V (Proc.devRef .tc main_arg1)) (V (Proc.devRef .tc main_arg6))
        (refZ (V (Proc.devRef .tc main_arg0)) (V (Proc.devRef .tc main_arg2)) (V (Proc.devRef .tc main_arg3)) (V (Proc.devRef .tc main_arg4)) (V (Proc.devRef .tc main_arg5))) 10 (by decide)) := by
  simp only [ops, TRef.binary, TRef.nullary, TRef.unary, TRef.toBuf, TRef.ofBuf, cast_eq]
  after_results_simp
  rfl

/-- The buffers the operations write, in order. -/
abbrev written : List (Ref sig .tc) :=
  [main_v0, main_v1, main_v2, main_v3, main_v4, main_call0_cst, main_call0_v0, main_v5, main_v6, main_v7,
   main_v8, main_v9, main_v10, main_v11, main_v12, main_v13, main_v14, main_v15, main_v16, main_v17, main_v18,
   main_v19, main_v20, main_v21, main_v22, main_v23, main_v24, main_v25, main_v26, main_v27, main_v28, main_v29,
   main_v30, main_v31, main_v32, main_v33, main_v34, main_v35, main_v36, main_v37, main_v38, main_v39, main_v40,
   main_v41, main_v42, main_v43, main_v44, main_v45, main_v46, main_v47, main_v48, main_v49, main_v50, main_v51,
   main_v52, main_v53, main_v54, main_v55, main_v56, main_v57, main_v58, main_v59, main_v60, main_v61, main_v62,
   main_v63, main_v64, main_v65, main_v66, main_v67, main_v68, main_v69, main_v70, main_v71, main_v72, main_v73,
   main_v74, main_call1_cst, main_call1_v0, main_call1_cst_0, main_call1_v1, main_call1_v2, main_call1_v3,
   main_call1_v4, main_call1_v5, main_call1_v6, main_call1_cst_1, main_call1_v7, main_call1_v8, main_call1_v9,
   main_call1_v10, main_v75]

/-- The operations leave a buffer they do not write as it was. -/
theorem after_arg (V : Valuation τ sig (Elt F)) (r : Ref sig .tc) (hr : r ∉ written) :
    after ops V (Proc.devRef .tc r) = V (Proc.devRef .tc r) :=
  after_of_writes_sub (W := written) ops V (forall_writes_sub_of_map rfl) hr

/-- The reference's result as a function of the seven arguments. -/
def refOut (x : FVec F S10000x512 .f32) (adj : FVec F S10000x10000 .f32) (w1 : FVec F S512x512 .f32) (b1 : FVec F S512 .f32)
    (w2 : FVec F S64x512 .f32) (b2 : FVec F S64 .f32) (g : FVec F S11 .f32) : FVec F S10000x64 .f32 :=
  refLsm (refY adj g (refZ x w1 b1 w2 b2) 10 (by decide))

/-- From any memory with zero counters every weakly fair execution of the reference ends with the result buffer at
    `refOut` of the arguments, the arguments as they were and every counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v75) = refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun r h => ⟨fun c => ⟨(h c main_v75).trans (after_result _),
      (h c main_arg0).trans (after_arg _ _ (by decide)), (h c main_arg1).trans (after_arg _ _ (by decide)),
      (h c main_arg2).trans (after_arg _ _ (by decide)), (h c main_arg3).trans (after_arg _ _ (by decide)),
      (h c main_arg4).trans (after_arg _ _ (by decide)), (h c main_arg5).trans (after_arg _ _ (by decide)),
      (h c main_arg6).trans (after_arg _ _ (by decide))⟩, sem_eq_zero_of_no_sems (by decide) _⟩)
    (run_seq scopedRefs_eq scopedSems_eq defs main (fun _ => ops) main_eq (fun _ => ops_sub) m ρ)

end Cert.Proof.RefRun

end
-- ==== Proof.Frames.lean ====
module

public import proofs.«01_k».proof.Proof.Run
public import proofs.«01_k».proof.Proof.Same
public import proofs.«01_k».proof.Proof.RefRun
public import proofs.«01_k».proof.Defs

@[expose] public section

set_option maxRecDepth 16384

noncomputable section

namespace Cert.Proof

open Idealize.ShloMosaic Idealize.ShloMosaic.TcCoe

/-- The source program at the machine's words: it ends with its arguments as they were and every semaphore at zero. -/
theorem kernel_frame : quiescent_Kernel := by
  intro m g _
  letI : Named Bits := Same.wordNamed
  have h := Run.run (F := Bits) m g
  rw [Same.defs_same, Same.main_same] at h
  exact h.mono fun r hr => ⟨fun c => (hr.1 c).2, hr.2⟩

/-- The idealized program: it ends with its arguments as they were and every semaphore at zero. -/
theorem ideal_frame : quiescent_KernelIdeal := fun m g _ =>
  (Run.run (F := Ideal) m g).mono fun r hr => ⟨fun c => (hr.1 c).2, hr.2⟩

/-- The reference program: it ends with its arguments as they were and every semaphore at zero. -/
theorem ref_frame : quiescent_ReferenceIdeal := fun m g _ =>
  (RefRun.run (F := Ideal) m g).mono fun r hr => ⟨fun c => (hr.1 c).2, hr.2⟩

end Cert.Proof

end
-- ==== Proof.Value.lean ====
module

public import proofs.«01_k».proof.Proof.Run
public import Idealize.ShloMosaic.Lib.Pipeline.ValueKit

@[expose] public section

set_option maxRecDepth 16384

noncomputable section

namespace Cert.Proof

open Cert.KernelIdeal Cert.KernelIdeal.Gen

open Idealize.ShloMosaic
open Idealize.ShloMosaic.TcCoe Idealize.ShloMosaic.Tactic

variable {F : FTy → Type} [FloatOps F] [Named F]

variable (V : (c : Dev nD) → (b : Ref sig .tc) → Buf (Elt F) ((c : Thread nD τ).loc b))

open Region1 (assemble arrIx rowIx rowsOf_apply rowsOf_assemble outBlk)

/-- An index of one block of the blocked adjacency array. -/
def oneIx (r : Fin 400) (j : Fin 10000) : S1x400x10000.Idx
  | ⟨0, _⟩ => (0 : Fin 1)
  | ⟨1, _⟩ => r
  | ⟨2, _⟩ => j

/-- The projected features the first region leaves. -/
def zArr (c : Dev nD) : S10000x64.Idx → Elt F .f32 := assemble fun b hb => Region0.zBlk V c ⟨b, hb⟩

/-- The quantised adjacency the first region leaves. -/
def aqArr (c : Dev nD) : S25x400x10000.Idx → Elt F .fp8e4m3 := fun j => Region0.aqBlk V c ⟨(j 0).val, (j 0).isLt⟩ (oneIx (j 1) (j 2))

/-- The result the second region leaves. -/
def outArr (c : Dev nD) : S10000x64.Idx → Elt F .f32 := assemble (outBlk V c)

/-- The blocks of the first result are written in order. -/
theorem index0_6 (t : Fin grid0.N) : win0_6.index t 0 = t.val := by
  have key : ∀ t : Fin 25, win0_6.index t 0 = t.val := by decide +kernel
  exact key t

/-- The blocks of the second result are written in order. -/
theorem index0_7 (t : Fin grid0.N) : win0_7.index t 0 = t.val := by
  have key : ∀ t : Fin 25, win0_7.index t 0 = t.val := by decide +kernel
  exact key t

/-- In the last pass the blocks of the result are written in order. -/
theorem index1_3 (t : Fin grid1.N) (h : 225 ≤ t.val) : win1_3.index t 0 = t.val % 25 := by
  have key : ∀ t : Fin 250, 225 ≤ t.val → win1_3.index t 0 = t.val % 25 := by decide +kernel
  exact key t h

set_option maxHeartbeats 1000000 in
/-- The first result's array after the first region. -/
theorem arr0_6 (c : Dev nD) : (Region0.dat V c).arrAt 6 cfg0.N = zArr V c := by
  refine (Region0.dat V c).arrAt_eq_of_covers 6 (zArr V c) (show Pipeline.Window.Covers win0_6 by decide +kernel) fun t hf y => ?_
  have ht : t.val < 25 := t.isLt
  have hy : (y 0).val < 400 := (y 0).isLt
  show Region0.zBlk V c t y = zArr V c ((win0_6.rect t).emb y)
  have e : (win0_6.rect t).emb y = arrIx ⟨400 * t.val + (y 0).val, by omega⟩ (y 1) := by
    refine funext fun a => Fin.ext ?_
    match a with
    | ⟨0, _⟩ =>
      refine (win0_6.rect_emb_val t y 0).trans ?_
      rw [index0_6]
      show t.val * 400 + (y 0).val = 400 * t.val + (y 0).val
      omega
    | ⟨1, _⟩ => exact win0_6.rect_emb_val_of_index_zero t 1 rfl y
  rw [e]
  refine Eq.trans ?_ (rowsOf_apply (zArr V c) t.val ht y)
  unfold zArr
  rw [rowsOf_assemble]

set_option maxHeartbeats 1000000 in
/-- The second result's array after the first region. -/
theorem arr0_7 (c : Dev nD) : (Region0.dat V c).arrAt 7 cfg0.N = aqArr V c := by
  refine (Region0.dat V c).arrAt_eq_of_covers 7 (aqArr V c) (show Pipeline.Window.Covers win0_7 by decide +kernel) fun t hf y => ?_
  have ht : t.val < 25 := t.isLt
  have hy : (y 0).val < 1 := (y 0).isLt
  show Region0.aqBlk V c t y = aqArr V c ((win0_7.rect t).emb y)
  have e0 : (((win0_7.rect t).emb y) 0).val = t.val := by
    refine (win0_7.rect_emb_val t y 0).trans ?_
    rw [index0_7]
    show t.val * 1 + (y 0).val = t.val
    omega
  have e1 : (((win0_7.rect t).emb y) 1).val = (y 1).val := win0_7.rect_emb_val_of_index_zero t 1 rfl y
  have e2 : (((win0_7.rect t).emb y) 2).val = (y 2).val := win0_7.rect_emb_val_of_index_zero t 2 rfl y
  show _ = Region0.aqBlk V c ⟨(((win0_7.rect t).emb y) 0).val, _⟩ _
  have hc : ∀ (t' : Fin cfg0.N) (y' : S1x400x10000.Idx), t'.val = t.val → (∀ a, (y' a).val = (y a).val) → Region0.aqBlk V c t y = Region0.aqBlk V c t' y' := by
    intro t' y' h1 h2
    obtain rfl : t' = t := Fin.ext h1
    obtain rfl : y' = y := funext fun a => Fin.ext (h2 a)
    rfl
  refine hc _ _ e0 fun a => ?_
  match a with
  | ⟨0, _⟩ => show 0 = (y 0).val; omega
  | ⟨1, _⟩ => exact e1
  | ⟨2, _⟩ => exact e2

set_option maxHeartbeats 1000000 in
/-- The result's array after the second region. -/
theorem arr1_3 (c : Dev nD) : (Region1.dat V c).arrAt 3 cfg1.N = outArr V c := by
  refine (Region1.dat V c).arrAt_eq_of_covers 3 (outArr V c) (show Pipeline.Window.Covers win1_3 by decide +kernel) fun t hf y => ?_
  rw [Region1.flush1_3, decide_eq_true_iff] at hf
  have ht : t.val % 25 < 25 := Nat.mod_lt _ (by decide)
  have hy : (y 0).val < 400 := (y 0).isLt
  show outBlk V c (t.val % 25) _ y = outArr V c ((win1_3.rect t).emb y)
  have e : (win1_3.rect t).emb y = arrIx ⟨400 * (t.val % 25) + (y 0).val, by omega⟩ (y 1) := by
    refine funext fun a => Fin.ext ?_
    match a with
    | ⟨0, _⟩ =>
      refine (win1_3.rect_emb_val t y 0).trans ?_
      rw [index1_3 t hf]
      show t.val % 25 * 400 + (y 0).val = 400 * (t.val % 25) + (y 0).val
      omega
    | ⟨1, _⟩ => exact win1_3.rect_emb_val_of_index_zero t 1 rfl y
  rw [e]
  refine Eq.trans ?_ (rowsOf_apply (outArr V c) (t.val % 25) ht y)
  unfold outArr
  rw [rowsOf_assemble]

end Cert.Proof

end
-- ==== Proof.Blocks.lean ====
/-
  What the first region reads: each of its windows' blocks at an index, and what the host operations before it leave
  in the buffers of the two layers' weights and biases.
-/
module

public import proofs.«01_k».proof.Proof.Value
public import Idealize.ShloMosaic.Lib.Pointwise

@[expose] public section

set_option maxRecDepth 16384

noncomputable section

namespace Cert.Proof.Blocks

open Cert.KernelIdeal Cert.KernelIdeal.Gen
open Idealize.ShloMosaic Idealize.ShloMosaic.TcCoe Idealize.ShloMosaic.StableHlo
open Region0 (blk)

section
variable {F : FTy → Type} [FloatOps F] [Named F]
variable (V : (c : Dev nD) → (b : Ref sig .tc) → Buf (Elt F) ((c : Thread nD τ).loc b))

/-- The row blocks of the features are taken in order. -/
theorem index0_0 (t : Fin grid0.N) : win0_0.index t 0 = t.val := by
  have key : ∀ t : Fin 25, win0_0.index t 0 = t.val := by decide +kernel
  exact key t

/-- The row blocks of the adjacency are taken in order. -/
theorem index0_5 (t : Fin grid0.N) : win0_5.index t 0 = t.val := by
  have key : ∀ t : Fin 25, win0_5.index t 0 = t.val := by decide +kernel
  exact key t

/-- Row `r` of block `t` is a row of the whole array. -/
theorem row_lt {t : ℕ} (h : t < 25) (r : Fin 400) : 400 * t + r.val < 10000 := by omega

/-- A block of the features' rows. -/
theorem blk_0 (c : Dev nD) (t : Fin cfg0.N) (r : Fin 400) (k : Fin 512) :
    (blk V c 0 t : S400x512.Idx → Elt F .f32) (ix2 r k) = (V c main_arg0 : S10000x512.Idx → Elt F .f32) (ix2 ⟨400 * t.val + r.val, row_lt t.isLt r⟩ k) := by
  refine congrArg (V c main_arg0 : S10000x512.Idx → Elt F .f32) (funext fun a => Fin.ext ?_)
  match a with
  | ⟨0, _⟩ =>
    refine (win0_0.rect_emb_val t (ix2 r k) 0).trans ?_
    rw [index0_0]
    show t.val * 400 + r.val = 400 * t.val + r.val
    omega
  | ⟨1, _⟩ => exact (win0_0.rect_emb_val_of_index_zero t 1 rfl (ix2 r k))

/-- A block of the adjacency's rows. -/
theorem blk_5 (c : Dev nD) (t : Fin cfg0.N) (r : Fin 400) (k : Fin 10000) :
    (blk V c 5 t : S400x10000.Idx → Elt F .f32) (ix2 r k) = (V c main_arg1 : S10000x10000.Idx → Elt F .f32) (ix2 ⟨400 * t.val + r.val, row_lt t.isLt r⟩ k) := by
  refine congrArg (V c main_arg1 : S10000x10000.Idx → Elt F .f32) (funext fun a => Fin.ext ?_)
  match a with
  | ⟨0, _⟩ =>
    refine (win0_5.rect_emb_val t (ix2 r k) 0).trans ?_
    rw [index0_5]
    show t.val * 400 + r.val = 400 * t.val + r.val
    omega
  | ⟨1, _⟩ => exact (win0_5.rect_emb_val_of_index_zero t 1 rfl (ix2 r k))

/-- The first layer's weights are read whole. -/
theorem blk_1 (c : Dev nD) (t : Fin cfg0.N) : (blk V c 1 t : S512x512.Idx → Elt F .bf16) = V c main_v0 := by
  funext j
  refine congrArg (V c main_v0 : S512x512.Idx → Elt F .bf16) (funext fun a => Fin.ext ?_)
  match a with
  | ⟨0, _⟩ => exact (win0_1.rect_emb_val_of_index_zero t 0 rfl j)
  | ⟨1, _⟩ => exact (win0_1.rect_emb_val_of_index_zero t 1 rfl j)

/-- The first layer's bias is read whole. -/
theorem blk_2 (c : Dev nD) (t : Fin cfg0.N) : (blk V c 2 t : S1x512.Idx → Elt F .f32) = V c main_v1 := by
  funext j
  refine congrArg (V c main_v1 : S1x512.Idx → Elt F .f32) (funext fun a => Fin.ext ?_)
  match a with
  | ⟨0, _⟩ => exact (win0_2.rect_emb_val_of_index_zero t 0 rfl j)
  | ⟨1, _⟩ => exact (win0_2.rect_emb_val_of_index_zero t 1 rfl j)

/-- The second layer's weights are read whole. -/
theorem blk_3 (c : Dev nD) (t : Fin cfg0.N) : (blk V c 3 t : S64x512.Idx → Elt F .bf16) = V c main_v2 := by
  funext j
  refine congrArg (V c main_v2 : S64x512.Idx → Elt F .bf16) (funext fun a => Fin.ext ?_)
  match a with
  | ⟨0, _⟩ => exact (win0_3.rect_emb_val_of_index_zero t 0 rfl j)
  | ⟨1, _⟩ => exact (win0_3.rect_emb_val_of_index_zero t 1 rfl j)

/-- The second layer's bias is read whole. -/
theorem blk_4 (c : Dev nD) (t : Fin cfg0.N) : (blk V c 4 t : S1x64.Idx → Elt F .f32) = V c main_v3 := by
  funext j
  refine congrArg (V c main_v3 : S1x64.Idx → Elt F .f32) (funext fun a => Fin.ext ?_)
  match a with
  | ⟨0, _⟩ => exact (win0_4.rect_emb_val_of_index_zero t 0 rfl j)
  | ⟨1, _⟩ => exact (win0_4.rect_emb_val_of_index_zero t 1 rfl j)

end

variable (m : (ℓ : Loc nD τ sig) → Buf (Elt Ideal) ℓ)

/-- The first layer's weights, rounded to a narrower format, are as they were. -/
theorem host_0 (c : Dev nD) : (Run.U1 m c main_v0 : S512x512.Idx → EReal) = m ((c : Thread nD τ).loc main_arg2) := by
  show StableHlo.after hostOps0 (V0 m c) (Proc.devRef .tc main_v0) = _
  after_results_simp
  rfl

/-- The first layer's bias as a one-row array. -/
theorem host_1 (c : Dev nD) (d : Fin 512) : (Run.U1 m c main_v1 : S1x512.Idx → EReal) (ix2 0 d) = (m ((c : Thread nD τ).loc main_arg3) : S512.Idx → EReal) (ix1 d) := by
  have h : (Run.U1 m c main_v1 : S1x512.Idx → EReal) = shapeCast S1x512 (m ((c : Thread nD τ).loc main_arg3) : FVec Ideal S512 .f32) shapeCasts_S512_S1x512 := by
    show StableHlo.after hostOps0 (V0 m c) (Proc.devRef .tc main_v1) = _
    after_results_simp
    rfl
  rw [h]
  pointwise

/-- The second layer's weights, rounded to a narrower format, are as they were. -/
theorem host_2 (c : Dev nD) : (Run.U1 m c main_v2 : S64x512.Idx → EReal) = m ((c : Thread nD τ).loc main_arg4) := by
  show StableHlo.after hostOps0 (V0 m c) (Proc.devRef .tc main_v2) = _
  after_results_simp
  rfl

/-- The second layer's bias as a one-row array. -/
theorem host_3 (c : Dev nD) (d : Fin 64) : (Run.U1 m c main_v3 : S1x64.Idx → EReal) (ix2 0 d) = (m ((c : Thread nD τ).loc main_arg5) : S64.Idx → EReal) (ix1 d) := by
  have h : (Run.U1 m c main_v3 : S1x64.Idx → EReal) = shapeCast S1x64 (m ((c : Thread nD τ).loc main_arg5) : FVec Ideal S64 .f32) shapeCasts_S64_S1x64 := by
    show StableHlo.after hostOps0 (V0 m c) (Proc.devRef .tc main_v3) = _
    after_results_simp
    rfl
  rw [h]
  pointwise

end Cert.Proof.Blocks
end
-- ==== Proof.Entries.lean ====
/-
  What the kernel's and the reference's array expressions are at an index, over the extended reals: sums, maxima and
  the scalar operations, with the conversions between float formats gone.
-/
module

public import proofs.«01_k».proof.Proof.Gen.KernelIdeal.Skeleton
public import proofs.«01_k».proof.Proof.Passes
public import proofs.«01_k».proof.Proof.RefRun
public import Idealize.ShloMosaic.Lib.Pointwise

@[expose] public section

set_option maxRecDepth 16384

noncomputable section

namespace Cert.Proof.Entries

open Cert.KernelIdeal Cert.KernelIdeal.Gen
open Idealize.ShloMosaic Idealize.ShloMosaic.TcCoe

/-- The greatest of finitely many extended reals, from minus infinity as the programs spell it. -/
def top {n : ℕ} (f : Fin n → EReal) : EReal := Finset.fold max (Ideal.ofBits .f32 4286578688#32) f Finset.univ

/-- The log-softmax of a row at one position, as the kernel computes it. -/
def kernelLsm {n : ℕ} (f : Fin n → EReal) (d : Fin n) : EReal :=
  f d - (top f + Ideal.log (∑ x, Ideal.exp (f x - top f)))

/-- The log-softmax of a row at one position, as the reference computes it. -/
def referenceLsm {n : ℕ} (f : Fin n → EReal) (d : Fin n) : EReal :=
  f d - max (Ideal.ofBits .f32 4286578688#32) (top f)
    - Ideal.log (∑ x, Ideal.exp (f x - max (Ideal.ofBits .f32 4286578688#32) (top f)))

/-- The greatest magnitude in a column, kept above a tiny positive number. -/
def colMax {n : ℕ} (f : Fin n → EReal) : EReal :=
  max (top fun x => FloatOps.absf (F := Ideal) (φ := .f32) (f x)) (Ideal.ofBits .f32 228737632#32)

/-- The projection's entry: two dense layers with a rectifier between them. -/
theorem prep_at (x : FVec Ideal S400x512 .f32) (w1 : FVec Ideal S512x512 .bf16) (b1 : FVec Ideal S1x512 .f32) (w2 : FVec Ideal S64x512 .bf16)
    (b2 : FVec Ideal S1x64 .f32) (r : Fin 400) (d : Fin 64) : k0_pay1 (F := Ideal) x w1 b1 w2 b2 (ix2 r d)
      = ∑ i : Fin 512, max ((∑ j : Fin 512, x (ix2 r j) * w1 (ix2 i j)) + b1 (ix2 0 i)) 0 * w2 (ix2 d i) + b2 (ix2 0 d) := by
  pointwise [k0_pay1]

/-- The reference's input layers, entry by entry. -/
theorem refZ_at (x : FVec Ideal S10000x512 .f32) (w1 : FVec Ideal S512x512 .f32) (b1 : FVec Ideal S512 .f32) (w2 : FVec Ideal S64x512 .f32)
    (b2 : FVec Ideal S64 .f32) (r : Fin 10000) (d : Fin 64) : RefRun.refZ (F := Ideal) x w1 b1 w2 b2 (ix2 r d)
      = ∑ i : Fin 512, max ((∑ j : Fin 512, x (ix2 r j) * w1 (ix2 i j)) + b1 (ix1 i)) 0 * w2 (ix2 d i) + b2 (ix1 d) := by
  pointwise [RefRun.refZ]

/-- The stored adjacency is the adjacency times ten thousand. -/
theorem scaled_at (a : FVec Ideal S400x10000 .f32) (r : Fin 400) (j : Fin 10000) :
    k0_pay2 (F := Ideal) a (ix3 0 r j) = a (ix2 r j) * Ideal.ofBits .f32 1176256512#32 := by
  pointwise [k0_pay2]

/-- The greatest magnitude of each column of the features. -/
theorem colMax_at (v : FVec Ideal S10000x64 .f32) (d : Fin 64) : k1_pay5 (F := Ideal) v (ix2 0 d) = colMax fun x => v (ix2 x d) := by
  unfold colMax top
  pointwise [k1_pay5, k1_pay4]

/-- The scaled features: each column divided by its greatest magnitude, times 416. -/
theorem feat_at (v : FVec Ideal S10000x64 .f32) (j : Fin 10000) (d : Fin 64) :
    k1_pay6 (F := Ideal) v (ix2 j d) = v (ix2 j d) * Ideal.div (Ideal.ofBits .f32 1137704960#32) (k1_pay5 (F := Ideal) v (ix2 0 d)) := by
  pointwise [k1_pay6, k1_pay4]

/-- The factor that undoes both scalings of a column. -/
theorem factor_at (v : FVec Ideal S10000x64 .f32) (d : Fin 64) :
    k1_pay7 (F := Ideal) v (ix2 0 d) = k1_pay5 (F := Ideal) v (ix2 0 d) * Named.named (F := Ideal) κ "rescale" (φ := .f32) 880873014#32 := by
  pointwise [k1_pay7]

/-- One block of a propagation step, entry by entry. -/
theorem prop_at (a : FVec Ideal S1x400x10000 .fp8e4m3) (q : FVec Ideal S10000x64 .fp8e4m3) (f : FVec Ideal S1x64 .f32) (r : Fin 400) (d : Fin 64) :
    k1_pay14 (F := Ideal) a q f (ix2 r d) = (∑ j : Fin 10000, a (ix3 0 r j) * q (ix2 j d)) * f (ix2 0 d) := by
  pointwise [k1_pay14]

/-- The kernel's closing log-softmax, entry by entry. -/
theorem lsm_at (y : FVec Ideal S400x64 .f32) (r : Fin 400) (d : Fin 64) :
    k1_pay3 (F := Ideal) y (ix2 r d) = kernelLsm (fun x : Fin 64 => y (ix2 r x)) d := by
  unfold kernelLsm top
  pointwise [k1_pay3]

/-- The running sum's first update: two terms at once. -/
theorem first_at (a : FVec Ideal S1x400x10000 .fp8e4m3) (q : FVec Ideal S10000x64 .fp8e4m3) (f : FVec Ideal S1x64 .f32) (g0 g1 : Elt Ideal .f32)
    (z : FVec Ideal S400x64 .f32) (r : Fin 400) (d : Fin 64) :
    k1_pay16 (F := Ideal) a q f g0 z g1 (ix2 r d) = g0 * z (ix2 r d) + g1 * k1_pay14 (F := Ideal) a q f (ix2 r d) := by
  pointwise [k1_pay16]

/-- The running sum's other updates: one term more. -/
theorem next_at (p y : FVec Ideal S400x64 .f32) (g : Elt Ideal .f32) (r : Fin 400) (d : Fin 64) :
    k1_pay2 (F := Ideal) p y g (ix2 r d) = y (ix2 r d) + g * p (ix2 r d) := by
  pointwise [k1_pay2]

/-- The reference's propagation step, entry by entry. -/
theorem refCur_at (a : FVec Ideal S10000x10000 .f32) (z : FVec Ideal S10000x64 .f32) (k : ℕ) (r : Fin 10000) (d : Fin 64) :
    RefRun.refCur (F := Ideal) a z (k + 1) (ix2 r d) = ∑ j : Fin 10000, a (ix2 r j) * RefRun.refCur a z k (ix2 j d) := by
  pointwise [RefRun.refCur]

/-- The reference's coefficient array has the one coefficient everywhere. -/
theorem refGam_at (g : FVec Ideal S11 .f32) (k : ℕ) (h : k < 11) (r : Fin 10000) (d : Fin 64) :
    RefRun.refGam (F := Ideal) g k h (ix2 r d) = g (ix1 ⟨k, h⟩) := by
  pointwise [RefRun.refGam]

/-- The reference's log-softmax, entry by entry. -/
theorem refLsm_at (y : FVec Ideal S10000x64 .f32) (r : Fin 10000) (d : Fin 64) :
    RefRun.refLsm (F := Ideal) y (ix2 r d) = referenceLsm (fun x : Fin 64 => y (ix2 r x)) d := by
  unfold referenceLsm top
  pointwise [RefRun.refLsm, RefRun.refShift]

end Cert.Proof.Entries
end
-- ==== Proof.Reals.lean ====
/-
  The arithmetic of the claim, over the extended reals: what the kernel computes of real numbers is what the reference
  computes of them.  Nothing here speaks of a program.
-/
module

public import Idealize.ShloMosaic.PureOps.Ideal
public import Idealize.ShloMosaic.PureOps.Ideal.Laws

@[expose] public section

noncomputable section

namespace Cert.Proof.Reals

open Idealize.ShloMosaic

/-- An extended real that is a real number. -/
def Fin' (x : EReal) : Prop := ∃ r : ℝ, x = (r : EReal)

/-- Zero is a real number. -/
theorem fin_zero : Fin' 0 := ⟨0, rfl⟩

/-- The sum of two real numbers is one. -/
theorem fin_add {x y : EReal} (hx : Fin' x) (hy : Fin' y) : Fin' (x + y) := by
  obtain ⟨a, rfl⟩ := hx
  obtain ⟨b, rfl⟩ := hy
  exact ⟨a + b, (EReal.coe_add a b).symm⟩

/-- The product of two real numbers is one. -/
theorem fin_mul {x y : EReal} (hx : Fin' x) (hy : Fin' y) : Fin' (x * y) := by
  obtain ⟨a, rfl⟩ := hx
  obtain ⟨b, rfl⟩ := hy
  exact ⟨a * b, (EReal.coe_mul a b).symm⟩

/-- The greater of two real numbers is one. -/
theorem fin_max {x y : EReal} (hx : Fin' x) (hy : Fin' y) : Fin' (max x y) := by
  rcases max_choice x y with h | h <;> rw [h] <;> assumption

/-- The sum of real numbers, taken over the extended reals, is their sum. -/
theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- A sum of real numbers is one. -/
theorem fin_sum {ι : Type} (s : Finset ι) (f : ι → EReal) (h : ∀ i, Fin' (f i)) : Fin' (∑ i ∈ s, f i) := by
  choose r hr using h
  exact ⟨∑ i ∈ s, r i, by rw [← coe_sum]; exact Finset.sum_congr rfl fun i _ => hr i⟩

/-- An extended real between two others that are not infinite outwards is a real number. -/
theorem fin_of_lt {x : EReal} (h1 : ⊥ < x) (h2 : x < ⊤) : Fin' x := ⟨x.toReal, (EReal.coe_toReal h2.ne h1.ne').symm⟩

/-- An extended real whose magnitude is below plus infinity is a real number. -/
theorem fin_of_abs {x : EReal} (h : max x (-x) < ⊤) : Fin' x := by
  refine fin_of_lt ?_ ((le_max_left _ _).trans_lt h)
  rcases eq_or_ne x ⊥ with rfl | hx
  · simp at h
  · exact bot_lt_iff_ne_bot.mpr hx

/-- The programs' minus infinity. -/
theorem bits_bot : Ideal.ofBits .f32 4286578688#32 = ⊥ := by simp [Ideal.ofBits, Ideal.ieee]

/-- The predicate's plus infinity. -/
theorem bits_top : Ideal.ofBits .f32 2139095040#32 = ⊤ := by simp [Ideal.ofBits, Ideal.ieee]

/-- The adjacency's scale. -/
theorem bits_10000 : Ideal.ofBits .f32 1176256512#32 = ((10000 : ℝ) : EReal) := by
  simp [Ideal.ofBits, Ideal.ieee, -EReal.coe_mul]; norm_num

/-- The features' scale. -/
theorem bits_416 : Ideal.ofBits .f32 1137704960#32 = ((416 : ℝ) : EReal) := by
  simp [Ideal.ofBits, Ideal.ieee, -EReal.coe_mul]; norm_num

/-- The least value a column's greatest magnitude is kept above is a positive real number. -/
theorem bits_tiny : ∃ e : ℝ, 0 < e ∧ Ideal.ofBits .f32 228737632#32 = (e : EReal) := by
  refine ⟨_, ?_, by simp [Ideal.ofBits, Ideal.ieee, -EReal.coe_mul]; rfl⟩
  norm_num

/-- The greatest of real numbers, kept above a positive real number, is a positive real number. -/
theorem max_pos {ι : Type} (s : Finset ι) (f : ι → EReal) (hf : ∀ i, Fin' (f i)) (e : ℝ) (he : 0 < e) :
    ∃ m : ℝ, 0 < m ∧ max (Finset.fold max ⊥ (fun i => max (f i) (-(f i))) s) (e : EReal) = (m : EReal) := by
  have hlt : max (Finset.fold max ⊥ (fun i => max (f i) (-(f i))) s) (e : EReal) < ⊤ := by
    refine max_lt ((Finset.fold_max_lt _).mpr ⟨bot_lt_top, fun i _ => ?_⟩) (EReal.coe_lt_top e)
    obtain ⟨r, hr⟩ := hf i
    rw [hr, ← EReal.coe_neg]
    exact max_lt (EReal.coe_lt_top _) (EReal.coe_lt_top _)
  have hge : (e : EReal) ≤ max (Finset.fold max ⊥ (fun i => max (f i) (-(f i))) s) (e : EReal) := le_max_right _ _
  obtain ⟨m, hm⟩ := fin_of_lt ((EReal.bot_lt_coe e).trans_le hge) hlt
  refine ⟨m, he.trans_le ?_, hm⟩
  rw [hm] at hge
  exact EReal.coe_le_coe_iff.mp hge

/-- Scaling the adjacency by ten thousand and the features by 416 over a positive real number, and multiplying the sum of
    products by that number over 4160000, is the sum of products. -/
theorem rescale {ι : Type} (s : Finset ι) (a v : ι → EReal) (ha : ∀ i, Fin' (a i)) (hv : ∀ i, Fin' (v i)) (m : ℝ) (hm : 0 < m) :
    (∑ i ∈ s, (a i * ((10000 : ℝ) : EReal)) * (v i * Ideal.div ((416 : ℝ) : EReal) (m : EReal))) * ((m : EReal) * ((1 / 4160000 : ℝ) : EReal))
      = ∑ i ∈ s, a i * v i := by
  choose a' ha' using ha
  choose v' hv' using hv
  have e1 : ∀ i, (a i * ((10000 : ℝ) : EReal)) * (v i * Ideal.div ((416 : ℝ) : EReal) (m : EReal)) = ((a' i * 10000 * (v' i * (416 * (1 / m))) : ℝ) : EReal) := fun i => by
    rw [ha', hv', Ideal.div_coe hm.ne']
    simp only [EReal.coe_mul]
  have e2 : ∀ i, a i * v i = ((a' i * v' i : ℝ) : EReal) := fun i => by rw [ha', hv', EReal.coe_mul]
  rw [Finset.sum_congr rfl fun i _ => e1 i, Finset.sum_congr rfl fun i _ => e2 i, coe_sum, coe_sum, ← EReal.coe_mul, ← EReal.coe_mul, Finset.sum_mul]
  refine congrArg _ (Finset.sum_congr rfl fun i _ => ?_)
  field_simp
  ring

/-- The greatest of real numbers, there being one, is a real number. -/
theorem fin_fold {ι : Type} (s : Finset ι) (f : ι → EReal) (hf : ∀ i, Fin' (f i)) (i : ι) (hi : i ∈ s) : Fin' (Finset.fold max ⊥ f s) := by
  refine fin_of_lt ((Finset.lt_fold_max _).mpr (Or.inr ⟨i, hi, ?_⟩)) ((Finset.fold_max_lt _).mpr ⟨bot_lt_top, fun j _ => ?_⟩)
  · obtain ⟨r, hr⟩ := hf i
    rw [hr]; exact EReal.bot_lt_coe r
  · obtain ⟨r, hr⟩ := hf j
    rw [hr]; exact EReal.coe_lt_top r

/-- The sum of the exponentials of real numbers, there being one, has a real logarithm. -/
theorem fin_log {ι : Type} (s : Finset ι) (f : ι → EReal) (hf : ∀ i, Fin' (f i)) (i : ι) (hi : i ∈ s) : Fin' (Ideal.log (∑ j ∈ s, Ideal.exp (f j))) := by
  choose r hr using hf
  have e : ∀ j, Ideal.exp (f j) = ((Real.exp (r j) : ℝ) : EReal) := fun j => by rw [hr]; exact Ideal.exp_coe _
  have hp : 0 < ∑ j ∈ s, Real.exp (r j) := Finset.sum_pos (fun j _ => Real.exp_pos _) ⟨i, hi⟩
  rw [Finset.sum_congr rfl fun j _ => e j, coe_sum, Ideal.log_coe, if_neg (not_le.mpr hp)]
  exact ⟨_, rfl⟩

/-- Of real numbers, taking away a sum is taking away its terms in turn. -/
theorem sub_add {x y z : EReal} (hx : Fin' x) (hy : Fin' y) (hz : Fin' z) : x - (y + z) = x - y - z := by
  obtain ⟨a, rfl⟩ := hx
  obtain ⟨b, rfl⟩ := hy
  obtain ⟨c, rfl⟩ := hz
  rw [← EReal.coe_add, ← EReal.coe_sub, ← EReal.coe_sub, ← EReal.coe_sub, sub_sub]

/-- The difference of two real numbers is one. -/
theorem fin_sub {x y : EReal} (hx : Fin' x) (hy : Fin' y) : Fin' (x - y) := by
  obtain ⟨a, rfl⟩ := hx
  obtain ⟨b, rfl⟩ := hy
  exact ⟨a - b, (EReal.coe_sub a b).symm⟩

end Cert.Proof.Reals
end
-- ==== Proof.Match.lean ====
/-
  The kernel's passes and the reference's steps, compared over real numbers: each pass's features are the reference's
  propagated features, the running sum is the reference's weighted sum, and the results are equal.
-/
module

public import proofs.«01_k».proof.Proof.Entries
public import proofs.«01_k».proof.Proof.Reals

@[expose] public section

set_option maxRecDepth 16384

noncomputable section

namespace Cert.Proof.Match

open Cert.KernelIdeal Cert.KernelIdeal.Gen
open Idealize.ShloMosaic Idealize.ShloMosaic.TcCoe
open Entries Reals Region1

/-- Row `r` of block `b` is a row of the whole array. -/
theorem row_lt {b : ℕ} (hb : b < 25) (r : Fin 400) : 400 * b + r.val < 10000 := by omega

/-- An index of the whole array, from its two coordinates. -/
theorem arrIx_eq (i : Fin 10000) (d : Fin 64) : arrIx i d = ix2 i d := by
  funext a
  match a with
  | ⟨0, _⟩ => rfl
  | ⟨1, _⟩ => rfl

/-- What holds at every pair of coordinates holds at every index. -/
theorem all_ix {n0 n1 : ℕ} {P : (⟨2, ![n0, n1]⟩ : Shape).Idx → Prop} (h : ∀ (i : Fin n0) (d : Fin n1), P (ix2 i d)) (j : (⟨2, ![n0, n1]⟩ : Shape).Idx) : P j := by
  rw [eq_ix2 j]
  exact h _ _

/-- The rows of a block, read at an index. -/
theorem rows_at {α : Type} (y : S10000x64.Idx → α) (b : ℕ) (hb : b < 25) (r : Fin 400) (d : Fin 64) :
    rowsOf y b hb (ix2 r d) = y (ix2 ⟨400 * b + r.val, row_lt hb r⟩ d) :=
  (rowsOf_apply y b hb (ix2 r d)).trans (congrArg y (arrIx_eq _ _))

/-- Two arrays that agree on every row of every block are equal. -/
theorem ext_blocks {α : Type} {x y : S10000x64.Idx → α}
    (h : ∀ (b : ℕ) (hb : b < 25) (r : Fin 400) (d : Fin 64), x (ix2 ⟨400 * b + r.val, row_lt hb r⟩ d) = y (ix2 ⟨400 * b + r.val, row_lt hb r⟩ d)) : x = y := by
  refine ext_rows x y fun b hb => funext (all_ix fun r d => ?_)
  rw [rows_at, rows_at]
  exact h b hb r d

/-- An assembled array, read at a row of a block. -/
theorem assemble_at {α : Type} (w : (b : ℕ) → b < 25 → S400x64.Idx → α) (b : ℕ) (hb : b < 25) (r : Fin 400) (d : Fin 64) :
    assemble w (ix2 ⟨400 * b + r.val, row_lt hb r⟩ d) = w b hb (ix2 r d) := by
  rw [← rows_at (assemble w) b hb r d, rowsOf_assemble]

/-- A coefficient is the entry of the coefficient array. -/
theorem coef_eq (g : FVec Ideal S11 .f32) (n : ℕ) (h : n < 11) : coef (F := Ideal) g n h = g (ix1 ⟨n, h⟩) := by
  refine congrArg g (funext fun a => ?_)
  match a with
  | ⟨0, _⟩ => rfl

/-- The greatest of a row, from minus infinity. -/
theorem top_eq {n : ℕ} (f : Fin n → EReal) : top f = Finset.fold max ⊥ f Finset.univ := by
  unfold top
  rw [bits_bot]

/-- The kept-positive greatest magnitude of a column of real numbers is a positive real number. -/
theorem colMax_pos {n : ℕ} (f : Fin n → EReal) (hf : ∀ i, Fin' (f i)) : ∃ m : ℝ, 0 < m ∧ colMax f = (m : EReal) := by
  obtain ⟨e, he, hb⟩ := bits_tiny
  obtain ⟨m, hm, h⟩ := max_pos Finset.univ f hf e he
  refine ⟨m, hm, ?_⟩
  unfold colMax
  rw [top_eq, hb]
  exact h

/-- Of a row of real numbers the two log-softmaxes are equal. -/
theorem lsm_eq {n : ℕ} (f : Fin n → EReal) (hf : ∀ i, Fin' (f i)) (d : Fin n) : kernelLsm f d = referenceLsm f d := by
  have ht : Fin' (top f) := by
    rw [top_eq]
    exact fin_fold _ f hf d (Finset.mem_univ d)
  have hm : max (Ideal.ofBits .f32 4286578688#32) (top f) = top f := by
    rw [bits_bot]
    exact max_eq_right bot_le
  unfold kernelLsm referenceLsm
  rw [hm]
  exact sub_add (hf d) ht (fin_log _ _ (fun i => fin_sub (hf i) ht) d (Finset.mem_univ d))

/-- The named constant is the reciprocal of 4160000. -/
theorem rescale_const : Named.named (F := Ideal) κ "rescale" (φ := .f32) 880873014#32 = ((1 / 4160000 : ℝ) : EReal) :=
  IdealRules.named_const.ideal_named_scalar _ _ _ _ rfl

section

variable (a : FVec Ideal S10000x10000 .f32) (z : FVec Ideal S10000x64 .f32) (g : FVec Ideal S11 .f32)
variable (AQ : (b : ℕ) → b < 25 → Vec Ideal S1x400x10000 .fp8e4m3)
variable (hAQ : ∀ (b : ℕ) (hb : b < 25) (r : Fin 400) (j : Fin 10000),
  (AQ b hb : S1x400x10000.Idx → EReal) (ix3 0 r j) = a (ix2 ⟨400 * b + r.val, row_lt hb r⟩ j) * Ideal.ofBits .f32 1176256512#32)
variable (ha : ∀ i, Fin' (a i)) (hz : ∀ i, Fin' (z i)) (hg : ∀ i, Fin' (g i))

include hAQ ha in
/-- One block of one pass: scaling and unscaling cancel, and the block's rows of the product remain. -/
theorem step (v : FVec Ideal S10000x64 .f32) (hv : ∀ i, Fin' (v i)) (b : ℕ) (hb : b < 25) (r : Fin 400) (d : Fin 64) :
    k1_pay14 (F := Ideal) (AQ b hb) (k1_pay6 (F := Ideal) v) (k1_pay7 (F := Ideal) v) (ix2 r d) = ∑ j : Fin 10000, a (ix2 ⟨400 * b + r.val, row_lt hb r⟩ j) * v (ix2 j d) := by
  obtain ⟨m, hm, e⟩ := colMax_pos (fun j : Fin 10000 => v (ix2 j d)) fun j => hv _
  have hc : k1_pay5 (F := Ideal) v (ix2 0 d) = (m : EReal) := (colMax_at v d).trans e
  have hf : k1_pay7 (F := Ideal) v (ix2 0 d) = (m : EReal) * ((1 / 4160000 : ℝ) : EReal) := by
    rw [factor_at, rescale_const, hc]
  have hs : ∀ j : Fin 10000, (AQ b hb : S1x400x10000.Idx → EReal) (ix3 0 r j) * k1_pay6 (F := Ideal) v (ix2 j d)
      = (a (ix2 ⟨400 * b + r.val, row_lt hb r⟩ j) * ((10000 : ℝ) : EReal)) * (v (ix2 j d) * Ideal.div ((416 : ℝ) : EReal) (m : EReal)) := fun j => by
    rw [hAQ, feat_at, hc, bits_10000, bits_416]
  refine (prop_at (AQ b hb) (k1_pay6 (F := Ideal) v) (k1_pay7 (F := Ideal) v) r d).trans ?_
  rw [hf]
  refine Eq.trans (congrArg (· * _) (Finset.sum_congr rfl fun j _ => hs j)) ?_
  exact rescale Finset.univ (fun j : Fin 10000 => a (ix2 ⟨400 * b + r.val, row_lt hb r⟩ j)) (fun j => v (ix2 j d)) (fun j => ha _) (fun j => hv _) m hm

include ha hz in
/-- The reference's propagated features are real numbers. -/
theorem fin_cur (n : ℕ) : ∀ i, Fin' (RefRun.refCur (F := Ideal) a z n i) := by
  induction n with
  | zero => exact hz
  | succ n ih =>
    refine all_ix fun i d => ?_
    rw [refCur_at]
    exact fin_sum _ _ fun j => fin_mul (ha _) (ih _)

include ha hz hg in
/-- The reference's weighted sums are real numbers. -/
theorem fin_sumY (n : ℕ) (h : n < 11) : ∀ i, Fin' (RefRun.refY (F := Ideal) a g z n h i) := by
  have hgam : ∀ (k : ℕ) (hk : k < 11) i, Fin' (RefRun.refGam (F := Ideal) g k hk i) := fun k hk => all_ix fun i d => by
    rw [refGam_at]
    exact hg _
  induction n with
  | zero => exact fun i => fin_mul (hgam 0 h i) (hz i)
  | succ n ih => exact fun i => fin_add (ih (by omega) i) (fin_mul (hgam (n + 1) h i) (fin_cur a z ha hz (n + 1) i))

include hAQ ha hz in
/-- The features the kernel keeps after pass `n` are the reference's after step `n`. -/
theorem cur_eq (n : ℕ) : cur (F := Ideal) AQ z n = RefRun.refCur (F := Ideal) a z n := by
  induction n with
  | zero => rfl
  | succ n ih =>
    refine ext_blocks fun b hb r d => ?_
    refine (assemble_at _ b hb r d).trans ?_
    rw [ih]
    refine (step a AQ hAQ ha _ (fin_cur a z ha hz n) b hb r d).trans ?_
    exact (refCur_at a z n _ d).symm

include hAQ ha hz in
/-- The running sum after pass `n + 1` is the reference's weighted sum up to step `n + 1`. -/
theorem acc_eq (n : ℕ) (h : n + 1 < 11) : acc (F := Ideal) AQ z g (n + 1) = RefRun.refY (F := Ideal) a g z (n + 1) h := by
  have hnext : ∀ (k : ℕ) (b : ℕ) (hb : b < 25) (r : Fin 400) (d : Fin 64),
      k1_pay14 (F := Ideal) (AQ b hb) (k1_pay6 (cur AQ z k)) (k1_pay7 (cur AQ z k)) (ix2 r d)
        = RefRun.refCur (F := Ideal) a z (k + 1) (ix2 ⟨400 * b + r.val, row_lt hb r⟩ d) := fun k b hb r d => by
    rw [cur_eq a z AQ hAQ ha hz k]
    exact (step a AQ hAQ ha _ (fin_cur a z ha hz k) b hb r d).trans (refCur_at a z k _ d).symm
  have hacc : ∀ (k : ℕ) (hk : k < 10), acc (F := Ideal) AQ z g (k + 1)
      = assemble fun b hb => newY k b hk hb g (AQ b hb) (k1_pay6 (cur AQ z k)) (k1_pay7 (cur AQ z k)) z (acc AQ z g k) := fun k hk => dif_pos hk
  induction n with
  | zero =>
    rw [hacc 0 (by omega)]
    refine ext_blocks fun b hb r d => ?_
    refine (assemble_at _ b hb r d).trans ?_
    refine (first_at (AQ b hb) _ _ (coef g 0 (by omega)) (coef g 1 (by omega)) (rowsOf z b hb) r d).trans ?_
    rw [hnext 0 b hb r d, rows_at, coef_eq, coef_eq, ← refGam_at g 0 (by omega) ⟨400 * b + r.val, row_lt hb r⟩ d,
      ← refGam_at g 1 (by omega) ⟨400 * b + r.val, row_lt hb r⟩ d]
    rfl
  | succ n ih =>
    rw [hacc (n + 1) (by omega)]
    refine ext_blocks fun b hb r d => ?_
    refine (assemble_at _ b hb r d).trans ?_
    rw [ih (by omega)]
    have e : newY (F := Ideal) (n + 1) b (by omega) hb g (AQ b hb) (k1_pay6 (cur AQ z (n + 1))) (k1_pay7 (cur AQ z (n + 1))) z (RefRun.refY a g z (n + 1) (by omega))
        = k1_pay2 (k1_pay14 (AQ b hb) (k1_pay6 (cur AQ z (n + 1))) (k1_pay7 (cur AQ z (n + 1)))) (rowsOf (RefRun.refY a g z (n + 1) (by omega)) b hb) (coef g (n + 1 + 1) h) :=
      if_neg (Nat.succ_ne_zero n)
    rw [e]
    refine (next_at _ _ (coef g (n + 1 + 1) h) r d).trans ?_
    rw [hnext (n + 1) b hb r d, rows_at, coef_eq, ← refGam_at g (n + 1 + 1) h ⟨400 * b + r.val, row_lt hb r⟩ d]
    rfl

include hAQ ha hz hg in
/-- The kernel's result, assembled from the log-softmax of its blocks, is the reference's. -/
theorem out_eq : assemble (fun b hb => k1_pay3 (F := Ideal) (rowsOf (acc AQ z g 10) b hb)) = RefRun.refLsm (F := Ideal) (RefRun.refY a g z 10 (by omega)) := by
  rw [acc_eq a z g AQ hAQ ha hz 9 (by omega)]
  refine ext_blocks fun b hb r d => ?_
  refine (assemble_at _ b hb r d).trans ?_
  refine (lsm_at _ r d).trans ?_
  refine Eq.trans ?_ (refLsm_at _ _ d).symm
  rw [show (fun x : Fin 64 => rowsOf (RefRun.refY (F := Ideal) a g z 10 (by omega)) b hb (ix2 r x))
    = fun x : Fin 64 => RefRun.refY (F := Ideal) a g z 10 (by omega) (ix2 ⟨400 * b + r.val, row_lt hb r⟩ x) from funext fun x => rows_at _ b hb r x]
  exact lsm_eq _ (fun x => fin_sumY a z g ha hz hg 10 (by omega) _) d

end

end Cert.Proof.Match
end
-- ==== Proof.Finite.lean ====
/-
  What the precondition says: the seven argument arrays hold real numbers.
-/
module

public import proofs.«01_k».proof.Defs
public import proofs.«01_k».proof.Proof.Reals
public import Idealize.ShloMosaic.Lib.ReduceAll

@[expose] public section

noncomputable section

namespace Cert.Proof.Finite

open Idealize.ShloMosaic Cert.Pre_finite Reals

/-- The side conditions the precondition's operations take. -/
theorem facts : Cert.Pre_finite.Facts where
  bcast_S_S10000x512 := by decide
  reducesTo_S10000x512_S_d0_1 := by decide
  h_S_ := by decide
  bcast_S_S10000x10000 := by decide
  reducesTo_S10000x10000_S_d0_1 := by decide
  bcast_S_S512x512 := by decide
  reducesTo_S512x512_S_d0_1 := by decide
  bcast_S_S512 := by decide
  reducesTo_S512_S_d0 := by decide
  bcast_S_S64x512 := by decide
  reducesTo_S64x512_S_d0_1 := by decide
  bcast_S_S64 := by decide
  reducesTo_S64_S_d0 := by decide
  bcast_S_S11 := by decide
  reducesTo_S11_S_d0 := by decide

/-- An array all of whose magnitudes compare below plus infinity holds real numbers. -/
theorem fin_of_all {S : Shape} {axes : List (Fin S.rank)} (x : FVec Ideal S .f32) (hb : S_.BroadcastsInDim S (![] : Fin 0 → Fin S.rank)) (hr : S.ReducesTo axes S_) (hs : 0 < S_.numel) (j : S_.Idx)
    (e : Host.reduce IntOp.andi (cmpf .olt (Host.absf x) (broadcastInDim S ![] hb (constant S_ .f32 0x7F800000#32))) (constantI S_ 1 1#1) hr hs j = 1#1) (i : S.Idx) : Fin' (x i) := by
  have h := Host.reduce_andi_all _ _ _ _ j e i
  have h' : BitVec.ofBool (decide (max (x i) (-(x i)) < Ideal.ofBits .f32 2139095040#32)) = 1#1 := h
  rw [bits_top] at h'
  refine fin_of_abs ?_
  by_contra hn
  rw [decide_eq_false hn] at h'
  exact absurd h' (by decide)

/-- Two bits that are one together are each one. -/
theorem both {a b : BitVec 1} (h : IntOp.andi a b = 1#1) : a = 1#1 ∧ b = 1#1 := by
  revert h
  unfold IntOp.andi
  revert a b
  decide

/-- The precondition makes every element of every argument a real number. -/
theorem fin_args [Cert.Pre_finite.Facts] (x : FVec Ideal S10000x512 .f32) (a : FVec Ideal S10000x10000 .f32) (w1 : FVec Ideal S512x512 .f32) (b1 : FVec Ideal S512 .f32)
    (w2 : FVec Ideal S64x512 .f32) (b2 : FVec Ideal S64 .f32) (g : FVec Ideal S11 .f32) (j : S_.Idx) (h : fn x a w1 b1 w2 b2 g j = 1#1) :
    (∀ i, Fin' (x i)) ∧ (∀ i, Fin' (a i)) ∧ (∀ i, Fin' (w1 i)) ∧ (∀ i, Fin' (b1 i)) ∧ (∀ i, Fin' (w2 i)) ∧ (∀ i, Fin' (b2 i)) ∧ (∀ i, Fin' (g i)) := by
  unfold fn fn_part1 at h
  beta_reduce at h
  have k6 := fin_of_all g Facts.bcast_S_S11 Facts.reducesTo_S11_S_d0 Facts.h_S_ j (both h).2
  replace h := (both h).1
  have k5 := fin_of_all b2 Facts.bcast_S_S64 Facts.reducesTo_S64_S_d0 Facts.h_S_ j (both h).2
  replace h := (both h).1
  have k4 := fin_of_all w2 Facts.bcast_S_S64x512 Facts.reducesTo_S64x512_S_d0_1 Facts.h_S_ j (both h).2
  replace h := (both h).1
  have k3 := fin_of_all b1 Facts.bcast_S_S512 Facts.reducesTo_S512_S_d0 Facts.h_S_ j (both h).2
  replace h := (both h).1
  have k2 := fin_of_all w1 Facts.bcast_S_S512x512 Facts.reducesTo_S512x512_S_d0_1 Facts.h_S_ j (both h).2
  replace h := (both h).1
  have k1 := fin_of_all a Facts.bcast_S_S10000x10000 Facts.reducesTo_S10000x10000_S_d0_1 Facts.h_S_ j (both h).2
  replace h := (both h).1
  have k0 := fin_of_all x Facts.bcast_S_S10000x512 Facts.reducesTo_S10000x512_S_d0_1 Facts.h_S_ j h
  clear h
  exact ⟨k0, k1, k2, k3, k4, k5, k6⟩

end Cert.Proof.Finite
end
-- ==== Proof.Link.lean ====
/-
  The value claim: run from the same arguments, all of them real numbers, the kernel and the reference leave the same
  result.
-/
module

public import proofs.«01_k».proof.Proof.Blocks
public import proofs.«01_k».proof.Proof.Match
public import proofs.«01_k».proof.Proof.Finite

@[expose] public section

set_option maxRecDepth 16384

noncomputable section

namespace Cert.Proof.Link

open Cert.KernelIdeal Cert.KernelIdeal.Gen
open Idealize.ShloMosaic Idealize.ShloMosaic.TcCoe Idealize.SL.Sem
open Reals Region1 Match

variable (m : (ℓ : Loc nD τ sig) → Buf (Elt Ideal) ℓ)

/-- The reference's input layers, of the kernel's arguments. -/
abbrev zRef (c : Dev nD) : FVec Ideal S10000x64 .f32 :=
  RefRun.refZ (F := Ideal) (m ((c : Thread nD τ).loc main_arg0)) (m ((c : Thread nD τ).loc main_arg2)) (m ((c : Thread nD τ).loc main_arg3))
    (m ((c : Thread nD τ).loc main_arg4)) (m ((c : Thread nD τ).loc main_arg5))

/-- The adjacency argument. -/
abbrev adj (c : Dev nD) : FVec Ideal S10000x10000 .f32 := m ((c : Thread nD τ).loc main_arg1)

/-- The coefficients argument. -/
abbrev gam (c : Dev nD) : FVec Ideal S11 .f32 := m ((c : Thread nD τ).loc main_arg6)

/-- The first region's features are the reference's input layers. -/
theorem z_eq (c : Dev nD) : zArr (Run.U1 m) c = zRef m c := by
  refine ext_blocks fun b hb r d => ?_
  refine (assemble_at _ b hb r d).trans ?_
  have e0 : ∀ k : Fin 512, (Region0.blk (Run.U1 m) c 0 ⟨b, hb⟩ : S400x512.Idx → EReal) (ix2 r k)
      = (m ((c : Thread nD τ).loc main_arg0) : S10000x512.Idx → EReal) (ix2 ⟨400 * b + r.val, row_lt hb r⟩ k) := fun k =>
    (Blocks.blk_0 (Run.U1 m) c ⟨b, hb⟩ r k).trans (congrFun (V1_of m c main_arg0 (by decide)) _)
  have e1 : (Region0.blk (Run.U1 m) c 1 ⟨b, hb⟩ : S512x512.Idx → EReal) = m ((c : Thread nD τ).loc main_arg2) := (Blocks.blk_1 (Run.U1 m) c ⟨b, hb⟩).trans (Blocks.host_0 m c)
  have e2 : ∀ i : Fin 512, (Region0.blk (Run.U1 m) c 2 ⟨b, hb⟩ : S1x512.Idx → EReal) (ix2 0 i) = (m ((c : Thread nD τ).loc main_arg3) : S512.Idx → EReal) (ix1 i) := fun i =>
    (congrFun (Blocks.blk_2 (Run.U1 m) c ⟨b, hb⟩) _).trans (Blocks.host_1 m c i)
  have e3 : (Region0.blk (Run.U1 m) c 3 ⟨b, hb⟩ : S64x512.Idx → EReal) = m ((c : Thread nD τ).loc main_arg4) := (Blocks.blk_3 (Run.U1 m) c ⟨b, hb⟩).trans (Blocks.host_2 m c)
  have e4 : ∀ i : Fin 64, (Region0.blk (Run.U1 m) c 4 ⟨b, hb⟩ : S1x64.Idx → EReal) (ix2 0 i) = (m ((c : Thread nD τ).loc main_arg5) : S64.Idx → EReal) (ix1 i) := fun i =>
    (congrFun (Blocks.blk_4 (Run.U1 m) c ⟨b, hb⟩) _).trans (Blocks.host_3 m c i)
  refine (Entries.prep_at (Region0.blk (Run.U1 m) c 0 ⟨b, hb⟩) (Region0.blk (Run.U1 m) c 1 ⟨b, hb⟩) (Region0.blk (Run.U1 m) c 2 ⟨b, hb⟩)
    (Region0.blk (Run.U1 m) c 3 ⟨b, hb⟩) (Region0.blk (Run.U1 m) c 4 ⟨b, hb⟩) r d).trans ?_
  refine Eq.trans ?_ (Entries.refZ_at (m ((c : Thread nD τ).loc main_arg0)) (m ((c : Thread nD τ).loc main_arg2)) (m ((c : Thread nD τ).loc main_arg3))
    (m ((c : Thread nD τ).loc main_arg4)) (m ((c : Thread nD τ).loc main_arg5)) ⟨400 * b + r.val, row_lt hb r⟩ d).symm
  refine congrArg₂ (fun p q : EReal => p + q) (Finset.sum_congr rfl fun i _ => ?_) (e4 d)
  refine congrArg₂ (fun p q : EReal => p * q) (congrArg (fun p : EReal => max p 0) ?_) (congrFun e3 _)
  refine congrArg₂ (fun p q : EReal => p + q) (Finset.sum_congr rfl fun j _ => ?_) (e2 i)
  exact congrArg₂ (fun p q : EReal => p * q) (e0 j) (congrFun e1 _)

/-- The input layers of real numbers are real numbers. -/
theorem fin_z (x : FVec Ideal S10000x512 .f32) (w1 : FVec Ideal S512x512 .f32) (b1 : FVec Ideal S512 .f32) (w2 : FVec Ideal S64x512 .f32) (b2 : FVec Ideal S64 .f32)
    (hx : ∀ i, Fin' (x i)) (hw1 : ∀ i, Fin' (w1 i)) (hb1 : ∀ i, Fin' (b1 i)) (hw2 : ∀ i, Fin' (w2 i)) (hb2 : ∀ i, Fin' (b2 i)) :
    ∀ i, Fin' (RefRun.refZ (F := Ideal) x w1 b1 w2 b2 i) := all_ix fun r d => by
  rw [Entries.refZ_at]
  exact fin_add (fin_sum _ _ fun k => fin_mul (fin_max (fin_add (fin_sum _ _ fun j => fin_mul (hx _) (hw1 _)) (hb1 _)) fin_zero) (hw2 _)) (hb2 _)

/-- The second region reads the first region's features. -/
theorem zIn_eq (c : Dev nD) : zIn (Run.U2 m) c = zRef m c :=
  (Run.X2_z m c).trans ((arr0_6 (Run.U1 m) c).trans (z_eq m c))

/-- The second region reads the coefficients as they were. -/
theorem gIn_eq (c : Dev nD) : gIn (Run.U2 m) c = gam m c :=
  (Run.X2_ne m c main_arg6 (by decide) (by decide)).trans (V1_of m c main_arg6 (by decide))

/-- The second region reads the adjacency times ten thousand. -/
theorem AQ_eq (c : Dev nD) (b : ℕ) (hb : b < 25) (r : Fin 400) (j : Fin 10000) :
    (AQ (Run.U2 m) c b hb : S1x400x10000.Idx → EReal) (ix3 0 r j) = adj m c (ix2 ⟨400 * b + r.val, row_lt hb r⟩ j) * Ideal.ofBits .f32 1176256512#32 := by
  have h1 : (Run.U2 m c main_v4_1 : S25x400x10000.Idx → EReal) = aqArr (Run.U1 m) c := (Run.X2_adj m c).trans (arr0_7 (Run.U1 m) c)
  have h2 : oneIx r j = ix3 0 r j := by
    funext a
    match a with
    | ⟨0, _⟩ => rfl
    | ⟨1, _⟩ => rfl
    | ⟨2, _⟩ => rfl
  refine (congrFun h1 (adjIx ⟨b, hb⟩ r j)).trans ?_
  refine (congrArg (Region0.aqBlk (Run.U1 m) c ⟨b, hb⟩) h2).trans ?_
  refine (Entries.scaled_at (Region0.blk (Run.U1 m) c 5 ⟨b, hb⟩) r j).trans ?_
  exact congrArg (fun p : EReal => p * Ideal.ofBits .f32 1176256512#32)
    ((Blocks.blk_5 (Run.U1 m) c ⟨b, hb⟩ r j).trans (congrFun (V1_of m c main_arg1 (by decide)) _))

/-- From real arguments the kernel's result is the reference's function of them. -/
theorem kernel_value [Cert.Pre_finite.Facts] (h : Cert.Pre_KernelIdeal_finite m) (c : Dev nD) :
    (Region1.dat (Run.U2 m) c).arrAt 3 cfg1.N
      = RefRun.refOut (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  obtain ⟨hx, ha, hw1, hb1, hw2, hb2, hg⟩ := Finite.fin_args _ _ _ _ _ _ _ (fun d => d.elim0) (congrFun (h c) _)
  refine (arr1_3 (Run.U2 m) c).trans ?_
  unfold outArr outBlk
  rw [zIn_eq m c, gIn_eq m c]
  exact out_eq (adj m c) (zRef m c) (gam m c) (AQ (Run.U2 m) c) (AQ_eq m c) ha (fin_z _ _ _ _ _ hx hw1 hb1 hw2 hb2) hg

end Cert.Proof.Link
end
-- ==== Proof.lean ====
/-
  The proof of `Cert.Claim`.  The parts are proved in the modules under `Proof/`: the three programs' runs, the named
  constant, and the equality of the two results.
-/
module

public import proofs.«01_k».proof.Defs
public import proofs.«01_k».proof.Proof.Frames
public import proofs.«01_k».proof.Proof.Link

@[expose] public section

set_option maxRecDepth 16384

noncomputable section

namespace Cert.Proof

open Idealize.ShloMosaic Idealize.ShloMosaic.TcCoe Idealize.SL.Sem

/-- The named constant stands for the reciprocal of 4160000. -/
theorem preserves : preserves_Kernel_KernelIdeal :=
  IdealRules.named_const.statement Cert.KernelIdeal.κ "rescale" .f32 0x34810E36#32 ((1 / 4160000 : ℝ) : EReal) rfl

/-- From the same arguments, all real numbers, the idealized kernel and the reference leave the same result. -/
theorem algebraic [Cert.Pre_finite.Facts] : algebraic_KernelIdeal_ReferenceIdeal_pre_finite := by
  intro m g m' g' hpre hargs
  refine ⟨fun c => (Region1.dat (Run.U2 m) c).arrAt 3 Cert.KernelIdeal.cfg1.N, ?_, ?_⟩
  · exact (Run.run (F := Ideal) m g).mono fun r hr => hr.1
  · refine (RefRun.run (F := Ideal) m' g').mono fun r hr c => ⟨(hr.1 c).1.trans ?_, (hr.1 c).2⟩
    obtain ⟨h0, h1, h2, h3, h4, h5, h6⟩ := hargs c
    rw [h0, h1, h2, h3, h4, h5, h6]
    exact (Link.kernel_value m hpre c).symm

/-- Everything the certificate claims. -/
theorem claim : Cert.Claim :=
  ⟨Cert.Kernel.Gen.facts, Cert.KernelIdeal.Gen.facts, Cert.ReferenceIdeal.Gen.facts, Finite.facts,
    kernel_frame, ideal_frame, fun m g _ => ideal_frame m g trivial, ref_frame, fun m g _ => ref_frame m g trivial,
    preserves, @algebraic Finite.facts⟩

end Cert.Proof

end
